-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_input [hPre_finite_input : Cert.Pre_finite_input.Facts] (m : (ℓ : Loc Cert.KernelIdeal.nD Cert.KernelIdeal.τ Cert.KernelIdeal.sig) → Buf (Elt Ideal) ℓ) : Prop :=
  ∀ c : Dev Cert.KernelIdeal.nD,
    (Cert.Pre_finite_input.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_input [hPre_finite_input : Cert.Pre_finite_input.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_input.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_input [hKernelIdeal : Cert.KernelIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_input m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_input [hReferenceIdeal : Cert.ReferenceIdeal.Facts] [hPre_finite_input : Cert.Pre_finite_input.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_input m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_input [hKernelIdeal : Cert.KernelIdeal.Facts] [hReferenceIdeal : Cert.ReferenceIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_input m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_input : Cert.Pre_finite_input.Facts),
    quiescent_Kernel (hKernel := hKernel)
    ∧ quiescent_KernelIdeal (hKernelIdeal := hKernelIdeal)
    ∧ quiescent_KernelIdeal_pre_finite_input (hKernelIdeal := hKernelIdeal) (hPre_finite_input := hPre_finite_input)
    ∧ quiescent_ReferenceIdeal (hReferenceIdeal := hReferenceIdeal)
    ∧ quiescent_ReferenceIdeal_pre_finite_input (hReferenceIdeal := hReferenceIdeal) (hPre_finite_input := hPre_finite_input)
    ∧ preserves_Kernel_KernelIdeal
    ∧ algebraic_KernelIdeal_ReferenceIdeal_pre_finite_input (hKernelIdeal := hKernelIdeal) (hReferenceIdeal := hReferenceIdeal) (hPre_finite_input := hPre_finite_input)
-- ==== Pre_finite_input.lean ====
abbrev S4x256x2304 : Shape := ⟨3, ![4, 256, 2304]⟩
abbrev S1152x18432 : Shape := ⟨2, ![1152, 18432]⟩
abbrev S18x18432 : Shape := ⟨2, ![18, 18432]⟩
abbrev S18432 : Shape := ⟨1, ![18432]⟩
abbrev S_ : Shape := ⟨0, ![]⟩

class Facts : Prop where
  bcast_S_S4x256x2304 : S_.BroadcastsInDim S4x256x2304 (![] : Fin 0 → Fin S4x256x2304.rank)

variable [Facts]

def fn {F : FTy → Type} [FloatOps F] (main_arg0 : FVec F S4x256x2304 .bf16) (main_arg1 : IVec S1152x18432 8) (main_arg2 : IVec S18x18432 8) (main_arg3 : FVec F S18x18432 .f32) (main_arg4 : FVec F S18432 .f32) : IVec S4x256x2304 1 :=
  let main_v0 : FVec F S4x256x2304 .bf16 := Host.absf main_arg0
  let main_cst : FVec F S_ .bf16 := constant S_ .bf16 0x7F7F#16
  let main_v1 : FVec F S4x256x2304 .bf16 := broadcastInDim S4x256x2304 ![] bcast_S_S4x256x2304 main_cst
  let main_v2 : IVec S4x256x2304 1 := cmpf .ole main_v0 main_v1
  main_v2
-- ==== Kernel.lean ====
abbrev S4x256x2304 : Shape := ⟨3, ![4, 256, 2304]⟩
abbrev S1152x18432 : Shape := ⟨2, ![1152, 18432]⟩
abbrev S18x18432 : Shape := ⟨2, ![18, 18432]⟩
abbrev S18432 : Shape := ⟨1, ![18432]⟩
abbrev S1024x2304 : Shape := ⟨2, ![1024, 2304]⟩
abbrev S1x18432 : Shape := ⟨2, ![1, 18432]⟩
abbrev S1024x18432 : Shape := ⟨2, ![1024, 18432]⟩
abbrev S1024x1 : Shape := ⟨2, ![1024, 1]⟩
abbrev S1152x1024 : Shape := ⟨2, ![1152, 1024]⟩
abbrev S18x1024 : Shape := ⟨2, ![18, 1024]⟩
abbrev S1x1024 : Shape := ⟨2, ![1, 1024]⟩
abbrev S1024x1024 : Shape := ⟨2, ![1024, 1024]⟩
abbrev S1024x128 : Shape := ⟨2, ![1024, 128]⟩
abbrev S2304x1024 : Shape := ⟨2, ![2304, 1024]⟩
abbrev S128x2304 : Shape := ⟨2, ![128, 2304]⟩
abbrev S128 : Shape := ⟨1, ![128]⟩
abbrev S128x1 : Shape := ⟨2, ![128, 1]⟩
abbrev S128x128 : Shape := ⟨2, ![128, 128]⟩
abbrev S64x1024 : Shape := ⟨2, ![64, 1024]⟩
abbrev S64x2x1024 : Shape := ⟨3, ![64, 2, 1024]⟩
abbrev S64x1x1024 : Shape := ⟨3, ![64, 1, 1024]⟩
abbrev S128x1024 : Shape := ⟨2, ![128, 1024]⟩
abbrev S1x128 : Shape := ⟨2, ![1, 128]⟩

abbrev nBuf : Space → Nat
  | .hbm => 10
  | .vmem => 16
  | .smem => 0
  | _ => 0

abbrev bufTy : (tb : Table) → Fin (tcTables nBuf tb) → BufTy
  | .hbm, ⟨0, _⟩ => ⟨S4x256x2304, .bf16⟩
  | .hbm, ⟨1, _⟩ => ⟨S1152x18432, .i8⟩
  | .hbm, ⟨2, _⟩ => ⟨S18x18432, .i8⟩
  | .hbm, ⟨3, _⟩ => ⟨S18x18432, .f32⟩
  | .hbm, ⟨4, _⟩ => ⟨S18432, .f32⟩
  | .hbm, ⟨5, _⟩ => ⟨S1024x2304, .bf16⟩
  | .hbm, ⟨6, _⟩ => ⟨S1x18432, .f32⟩
  | .hbm, ⟨7, _⟩ => ⟨S1024x18432, .bf16⟩
  | .hbm, ⟨8, _⟩ => ⟨S1024x2304, .fp8e4m3⟩
  | .hbm, ⟨9, _⟩ => ⟨S1024x1, .f32⟩
  | .local _ .vmem, ⟨0, _⟩ => ⟨S1024x2304, .bf16⟩
  | .local _ .vmem, ⟨1, _⟩ => ⟨S1152x1024, .i8⟩
  | .local _ .vmem, ⟨2, _⟩ => ⟨S1152x1024, .i8⟩
  | .local _ .vmem, ⟨3, _⟩ => ⟨S18x1024, .i8⟩
  | .local _ .vmem, ⟨4, _⟩ => ⟨S18x1024, .i8⟩
  | .local _ .vmem, ⟨5, _⟩ => ⟨S18x1024, .f32⟩
  | .local _ .vmem, ⟨6, _⟩ => ⟨S18x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x2304, .fp8e4m3⟩
  | .local _ .vmem, ⟨12, _⟩ => ⟨S1024x1, .f32⟩
  | .local _ .vmem, ⟨13, _⟩ => ⟨S1024x2304, .bf16⟩
  | .local _ .vmem, ⟨14, _⟩ => ⟨S1024x128, .f32⟩
  | .local _ .vmem, ⟨15, _⟩ => ⟨S2304x1024, .bf16⟩
  | _, _ => ⟨S4x256x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1152x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S18x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S18x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2304 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x256x2304 : Shape := ⟨3, ![4, 256, 2304]⟩
abbrev S1152x18432 : Shape := ⟨2, ![1152, 18432]⟩
abbrev S18x18432 : Shape := ⟨2, ![18, 18432]⟩
abbrev S18432 : Shape := ⟨1, ![18432]⟩
abbrev S1024x2304 : Shape := ⟨2, ![1024, 2304]⟩
abbrev S1x18432 : Shape := ⟨2, ![1, 18432]⟩
abbrev S1024x18432 : Shape := ⟨2, ![1024, 18432]⟩
abbrev S1024x1 : Shape := ⟨2, ![1024, 1]⟩
abbrev S1024 : Shape := ⟨1, ![1024]⟩
abbrev S18x64x18432 : Shape := ⟨3, ![18, 64, 18432]⟩
abbrev S18x1x18432 : Shape := ⟨3, ![18, 1, 18432]⟩
abbrev S1024x1152x2 : Shape := ⟨3, ![1024, 1152, 2]⟩
abbrev S1024x1152x1 : Shape := ⟨3, ![1024, 1152, 1]⟩
abbrev S1024x1152 : Shape := ⟨2, ![1024, 1152]⟩

abbrev nBuf : Space → Nat
  | .hbm => 10
  | .vmem => 8
  | .smem => 0
  | _ => 0

abbrev bufTy : (tb : Table) → Fin (tcTables nBuf tb) → BufTy
  | .hbm, ⟨0, _⟩ => ⟨S4x256x2304, .bf16⟩
  | .hbm, ⟨1, _⟩ => ⟨S1152x18432, .i8⟩
  | .hbm, ⟨2, _⟩ => ⟨S18x18432, .i8⟩
  | .hbm, ⟨3, _⟩ => ⟨S18x18432, .f32⟩
  | .hbm, ⟨4, _⟩ => ⟨S18432, .f32⟩
  | .hbm, ⟨5, _⟩ => ⟨S1024x2304, .bf16⟩
  | .hbm, ⟨6, _⟩ => ⟨S1x18432, .f32⟩
  | .hbm, ⟨7, _⟩ => ⟨S1024x18432, .bf16⟩
  | .hbm, ⟨8, _⟩ => ⟨S1024x2304, .fp8e4m3⟩
  | .hbm, ⟨9, _⟩ => ⟨S1024x1, .f32⟩
  | .local _ .vmem, ⟨0, _⟩ => ⟨S1024x2304, .bf16⟩
  | .local _ .vmem, ⟨1, _⟩ => ⟨S1152x18432, .i8⟩
  | .local _ .vmem, ⟨2, _⟩ => ⟨S18x18432, .i8⟩
  | .local _ .vmem, ⟨3, _⟩ => ⟨S18x18432, .f32⟩
  | .local _ .vmem, ⟨4, _⟩ => ⟨S1x18432, .f32⟩
  | .local _ .vmem, ⟨5, _⟩ => ⟨S1024x18432, .bf16⟩
  | .local _ .vmem, ⟨6, _⟩ => ⟨S1024x2304, .fp8e4m3⟩
  | .local _ .vmem, ⟨7, _⟩ => ⟨S1024x1, .f32⟩
  | _, _ => ⟨S4x256x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x18432 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18x18432 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x18432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2304 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Runs.lean ====
/- What the two runs of the kernel body share: the branch condition in closed form over the grid points, the staging and
   scratch memrefs as the pipeline passes them, and the scoped scratch as memrefs owned at some contents. -/
module

public import proofs.«01_k».proof.Proof.Gen.KernelIdeal.Skeleton
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, k0_cond1, e0]
    word_cmp
   : ∀ t : Fin grid0.N, cond0_0 (grid0.coords t) ↔ t.val % 18 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1152x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S18x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S18x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2304 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x2304 .bf16 := Memref.whole cc0_scratch0
abbrev scM0_1 : Memref sig .tc .vmem S1024x128 .f32 := Memref.whole cc0_scratch1
abbrev scM0_2 : Memref sig .tc .vmem S2304x1024 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Blocks.lean ====
/- What the kernel body computes, as functions of the blocks it reads: one quantised chunk of 128 rows, one dequantised
   group of 128 weight rows, one column chunk of the product, and the buffers these pieces tile. -/
module

public import proofs.«01_k».proof.Proof.Runs
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The quantiser, one chunk of 128 rows -/

/-- Rows `128 k … 128 k + 127` of `x`, of the quantised codes and of the quantised activations. -/
def rowsX (k : Fin 8) : Rect S1024x2304 :=
  Rect.unit (s := S1024x2304) ![128 * k.val, 0] S128x2304.size (by revert k; decide)

/-- The same rows of the 128-lane scale buffer. -/
def rowsS (k : Fin 8) : Rect S1024x128 :=
  Rect.unit (s := S1024x128) ![128 * k.val, 0] S128x128.size (by revert k; decide)

/-- The same rows of the one-lane scale result. -/
def rowsC (k : Fin 8) : Rect S1024x1 :=
  Rect.unit (s := S1024x1) ![128 * k.val, 0] S128x1.size (by revert k; decide)

/-- The power-of-two exponent of each row of a chunk, on 128 equal lanes. -/
def qExp (v : Vec F S128x2304 .bf16) : IVec S128x128 32 :=
  k0_pay9 (k0_pay5 v) (k0_pay6 v) (k0_pay7 v) (k0_pay8 v)

/-- The chunk's codes. -/
def qCodes (v : Vec F S128x2304 .bf16) : FVec F S128x2304 .fp8e4m3 :=
  k0_pay10 (k0_pay4 v) (k0_pay5 v) (k0_pay6 v) (k0_pay7 v) (k0_pay8 v)

/-- The codes as the activations of the product. -/
def qAct (v : Vec F S128x2304 .bf16) : FVec F S128x2304 .bf16 := k0_pay12 (qCodes v)

/-- The chunk's scales on 128 lanes. -/
def qLanes (v : Vec F S128x2304 .bf16) : FVec F S128x128 .f32 := k0_pay13 (F := F) (qExp v)

/-- The chunk's scales on one lane. -/
def qScale (v : Vec F S128x2304 .bf16) : FVec F S128x1 .f32 := k0_pay14 (F := F) (qExp v)

/-- Chunk `k` of each quantiser result, as the store that writes it. -/
def pCodes (x : Vec F S1024x2304 .bf16) (k : Fin 8) : View.Piece (Elt F) S1024x2304 .fp8e4m3 :=
  ⟨rowsX k, qCodes (View.ld x (rowsX k))⟩
def pAct (x : Vec F S1024x2304 .bf16) (k : Fin 8) : View.Piece (Elt F) S1024x2304 .bf16 :=
  ⟨rowsX k, qAct (View.ld x (rowsX k))⟩
def pLanes (x : Vec F S1024x2304 .bf16) (k : Fin 8) : View.Piece (Elt F) S1024x128 .f32 :=
  ⟨rowsS k, qLanes (View.ld x (rowsX k))⟩
def pScale (x : Vec F S1024x2304 .bf16) (k : Fin 8) : View.Piece (Elt F) S1024x1 .f32 :=
  ⟨rowsC k, qScale (View.ld x (rowsX k))⟩

/-- The whole buffers the eight chunks leave: codes, activations, scales on 128 lanes, scales on one lane. -/
def codesOf (x : Vec F S1024x2304 .bf16) : Vec F S1024x2304 .fp8e4m3 :=
  View.canon [pCodes x 7, pCodes x 6, pCodes x 5, pCodes x 4, pCodes x 3, pCodes x 2, pCodes x 1, pCodes x 0]
def actOf (x : Vec F S1024x2304 .bf16) : Vec F S1024x2304 .bf16 :=
  View.canon [pAct x 7, pAct x 6, pAct x 5, pAct x 4, pAct x 3, pAct x 2, pAct x 1, pAct x 0]
def lanesOf (x : Vec F S1024x2304 .bf16) : Vec F S1024x128 .f32 :=
  View.canon [pLanes x 7, pLanes x 6, pLanes x 5, pLanes x 4, pLanes x 3, pLanes x 2, pLanes x 1, pLanes x 0]
def scaleOf (x : Vec F S1024x2304 .bf16) : Vec F S1024x1 .f32 :=
  View.canon [pScale x 7, pScale x 6, pScale x 5, pScale x 4, pScale x 3, pScale x 2, pScale x 1, pScale x 0]

/-! ## The weights, one group of 128 rows -/

/-- The 64 packed rows of group `g`, its row of zero points and of scales, and the 128 rows it fills. -/
def rowsP (g : Fin 18) : Rect S1152x1024 :=
  Rect.unit (s := S1152x1024) ![64 * g.val, 0] S64x1024.size (by revert g; decide)
def rowsZ (g : Fin 18) : Rect S18x1024 :=
  Rect.unit (s := S18x1024) ![g.val, 0] S1x1024.size (by revert g; decide)
def rowsW (g : Fin 18) : Rect S2304x1024 :=
  Rect.unit (s := S2304x1024) ![128 * g.val, 0] S128x1024.size (by revert g; decide)

/-- Group `g` of the dequantised weights, as the store that writes it. -/
def pW (p : Vec F S1152x1024 .i8) (z : Vec F S18x1024 .i8) (s : Vec F S18x1024 .f32) (g : Fin 18) :
    View.Piece (Elt F) S2304x1024 .bf16 :=
  ⟨rowsW g, k0_pay98 (View.ld p (rowsP g)) (View.ld z (rowsZ g)) (View.ld s (rowsZ g))⟩

/-- The dequantised weights of one column tile. -/
def wOf (p : Vec F S1152x1024 .i8) (z : Vec F S18x1024 .i8) (s : Vec F S18x1024 .f32) : Vec F S2304x1024 .bf16 :=
  View.canon [pW p z s 17, pW p z s 16, pW p z s 15, pW p z s 14, pW p z s 13, pW p z s 12, pW p z s 11, pW p z s 10, pW p z s 9, pW p z s 8, pW p z s 7, pW p z s 6, pW p z s 5, pW p z s 4, pW p z s 3, pW p z s 2, pW p z s 1, pW p z s 0]

/-! ## The product, one column chunk of 128 lanes -/

/-- Columns `128 q … 128 q + 127` of the output tile, and of the per-channel scales. -/
def colsY (q : Fin 8) : Rect S1024x1024 :=
  Rect.unit (s := S1024x1024) ![0, 128 * q.val] S1024x128.size (by revert q; decide)
def colsV (q : Fin 8) : Rect S1x1024 :=
  Rect.unit (s := S1x1024) ![0, 128 * q.val] S1x128.size (by revert q; decide)

theorem slices_colsY (q : Fin 8) : S1024x1024.Slices ![0, 128 * q.val] S1024x128 := by revert q; decide

/-- One column chunk: the accumulator's columns times the row scales times the channel scales. -/
def col (q : Fin 8) (acc : FVec F S1024x1024 .f32) (xs : Vec F S1024x128 .f32) (v : Vec F S1x128 .f32) : FVec F S1024x128 .bf16 :=
  truncf .bf16 (mulf (mulf (extractStridedSlice S1024x128 ![0, 128 * q.val] acc (slices_colsY q)) xs)
    (broadcastTo S1024x128 (shapeCast S1x128 v shapeCasts_S1x128_S1x128) broadcasts_S1x128_S1024x128)) bitsLt_bf16_f32

/-- Column chunk `q` of the output tile, as the store that writes it. -/
def pY (acc : FVec F S1024x1024 .f32) (xs : Vec F S1024x128 .f32) (v : Vec F S1x1024 .f32) (q : Fin 8) :
    View.Piece (Elt F) S1024x1024 .bf16 :=
  ⟨colsY q, col q acc xs (View.ld v (colsV q))⟩

/-- The output tile from the activations, their row scales, and the tile's packed weights, zero points, group scales and
    channel scales. -/
def yOf (xb : Vec F S1024x2304 .bf16) (xs : Vec F S1024x128 .f32) (p : Vec F S1152x1024 .i8) (z : Vec F S18x1024 .i8)
    (s : Vec F S18x1024 .f32) (v : Vec F S1x1024 .f32) : Vec F S1024x1024 .bf16 :=
  View.canon [pY (k0_pay130 xb (wOf p z s)) xs v 7, pY (k0_pay130 xb (wOf p z s)) xs v 6, pY (k0_pay130 xb (wOf p z s)) xs v 5, pY (k0_pay130 xb (wOf p z s)) xs v 4, pY (k0_pay130 xb (wOf p z s)) xs v 3, pY (k0_pay130 xb (wOf p z s)) xs v 2, pY (k0_pay130 xb (wOf p z s)) xs v 1, pY (k0_pay130 xb (wOf p z s)) xs v 0]

/-- The offset `(0, 0)` a whole-buffer load or store is written at. -/
theorem zero2 : (![0, 0] : Fin 2 → Nat) = fun _ => 0 := funext fun a => by fin_cases a <;> rfl

end Cert.KernelIdeal.Gen

end
-- ==== Proof.RunB.lean ====
/- The run of the kernel body at every grid point but the first: the output tile from the quantised activations the first
   point left in scratch. -/
module

public import proofs.«01_k».proof.Proof.Blocks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later grid point: from whole staging buffers holding the five inputs' blocks, the codes, the scales and
    the two scratch buffers of the activations at any contents, it runs to the continuation with the output tile the
    product of the activations found in scratch with the dequantised block of weights, scaled, and everything else as it
    was, but for the weights' buffer, which ends at some contents. -/
theorem kernelRun0_B (c : Dev nD) (i : grid0.Coords) (arg1 : Memref sig .tc .vmem S1024x2304 .bf16) (harg1 : arg1.IsWhole) (arg2 : Memref sig .tc .vmem S1152x1024 .i8) (harg2 : arg2.IsWhole) (arg3 : Memref sig .tc .vmem S18x1024 .i8) (harg3 : arg3.IsWhole) (arg4 : Memref sig .tc .vmem S18x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x2304 .fp8e4m3) (harg7 : arg7.IsWhole) (arg8 : Memref sig .tc .vmem S1024x1 .f32) (harg8 : arg8.IsWhole) (arg9 : Memref sig .tc .vmem S1024x2304 .bf16) (harg9 : arg9.IsWhole) (arg10 : Memref sig .tc .vmem S1024x128 .f32) (harg10 : arg10.IsWhole) (arg11 : Memref sig .tc .vmem S2304x1024 .bf16) (harg11 : arg11.IsWhole) (hc0 : ¬cond0_0 i)
    (x0 : Vec F S1024x2304 .bf16) (x1 : Vec F S1152x1024 .i8) (x2 : Vec F S18x1024 .i8) (x3 : Vec F S18x1024 .f32) (x4 : Vec F S1x1024 .f32)
    (y7 : Vec F S1024x2304 .fp8e4m3) (y8 : Vec F S1024x1 .f32) (y9 : Vec F S1024x2304 .bf16) (y10 : Vec F S1024x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y7 ∗ owns (c : Thread nD τ) arg8 fullShare y8 ∗ owns (c : Thread nD τ) arg9 fullShare y9 ∗ owns (c : Thread nD τ) arg10 fullShare y10 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yOf y9 y10 x1 x2 x3 x4) ∗ owns (c : Thread nD τ) arg7 fullShare y7 ∗ owns (c : Thread nD τ) arg8 fullShare y8 ∗ owns (c : Thread nD τ) arg9 fullShare y9 ∗ owns (c : Thread nD τ) arg10 fullShare y10 ∗ (∃ d, owns (c : Thread nD τ) arg11 fullShare d)) -∗ K ⟨⟩))
          ⊢ wp frame (wpE (defs₀ (F := F)) Variants.none c none) E (cc0_w4a8_linear i arg1 harg1 arg2 harg2 arg3 harg3 arg4 harg4 arg5 harg5 arg6 harg6 arg7 harg7 arg8 harg8 arg9 harg9 arg10 harg10 arg11 harg11) K := by
    intro E K
    simp only [cc0_w4a8_linear_eq_skeleton]; unfold cc0_w4a8_linear_skel
    simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf6; obtain rfl := harg8.eq_unread hf7; obtain rfl := harg9.eq_unread hfs0; obtain rfl := harg10.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      have hw : kernelRun0_B.sl.v436 c arg2 harg2 arg3 harg3 arg4 harg4 arg11 x1 x2 x3 = wOf x1 x2 x3 := by
        refine (View.readCov_eq_canon_ld _ _ _ ?_).trans ?_
        · exact View.cover_of_tiled _ S128x1024.size (by rfl)
        refine (View.ld_unit_zero zero2 _ _).trans ?_
        delta kernelRun0_B.sl.HS2_18
        delta kernelRun0_B.sl.r kernelRun0_B.sl.r_1 kernelRun0_B.sl.r_2 kernelRun0_B.sl.r_3 kernelRun0_B.sl.r_4 kernelRun0_B.sl.r_5 kernelRun0_B.sl.r_6 kernelRun0_B.sl.r_7 kernelRun0_B.sl.r_8 kernelRun0_B.sl.r_9 kernelRun0_B.sl.r_10 kernelRun0_B.sl.r_11 kernelRun0_B.sl.r_12 kernelRun0_B.sl.r_13 kernelRun0_B.sl.r_14
        simp only [View.readAt_eq_ld, hf1, hf2, hf3]
        rfl
      refine (View.read_writes_eq_canon _ _ _ ?_).trans ?_
      · exact View.cover_of_tiled _ S1024x128.size (by rfl)
      delta kernelRun0_B.sl.r_17 kernelRun0_B.sl.r_18 kernelRun0_B.sl.r_19
      delta kernelRun0_B.sl.r_15 kernelRun0_B.sl.r_16
      rw [hw]
      simp only [View.readAt_eq_ld, hf4, hfs0, hfs1]
      rw [View.ld_unit_zero zero2, View.ld_unit_zero zero2]
      rfl
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    isplitl [HS1]
    · iexists _; isplitr; · ipureintro; exact harg10.read_unread _
      iexact HS1
    iexists _, _; isplitr; swap; · iexact HS2
    ipureintro; rfl

end Cert.KernelIdeal.Gen

end
-- ==== Proof.RunA.lean ====
/- The run of the kernel body at the first grid point: the quantised activations, their codes and scales, and the first
   output tile. -/
module

public import proofs.«01_k».proof.Proof.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1208000 in
/-- The body at the first grid point: from whole staging buffers holding the five inputs' blocks, and the outputs and
    scratch buffers holding anything, it runs to the continuation with the output tile, the codes, the scales, the
    quantised activations and their spread scales named as functions of the inputs' blocks, and the weights' buffer at
    some contents. -/
theorem kernelRun0_A (c : Dev nD) (i : grid0.Coords) (arg1 : Memref sig .tc .vmem S1024x2304 .bf16) (harg1 : arg1.IsWhole) (arg2 : Memref sig .tc .vmem S1152x1024 .i8) (harg2 : arg2.IsWhole) (arg3 : Memref sig .tc .vmem S18x1024 .i8) (harg3 : arg3.IsWhole) (arg4 : Memref sig .tc .vmem S18x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x2304 .fp8e4m3) (harg7 : arg7.IsWhole) (arg8 : Memref sig .tc .vmem S1024x1 .f32) (harg8 : arg8.IsWhole) (arg9 : Memref sig .tc .vmem S1024x2304 .bf16) (harg9 : arg9.IsWhole) (arg10 : Memref sig .tc .vmem S1024x128 .f32) (harg10 : arg10.IsWhole) (arg11 : Memref sig .tc .vmem S2304x1024 .bf16) (harg11 : arg11.IsWhole) (hc0 : cond0_0 i)
    (x0 : Vec F S1024x2304 .bf16) (x1 : Vec F S1152x1024 .i8) (x2 : Vec F S18x1024 .i8) (x3 : Vec F S18x1024 .f32) (x4 : Vec F S1x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yOf (actOf x0) (lanesOf x0) x1 x2 x3 x4) ∗ owns (c : Thread nD τ) arg7 fullShare (codesOf x0) ∗ owns (c : Thread nD τ) arg8 fullShare (scaleOf x0) ∗ owns (c : Thread nD τ) arg9 fullShare (actOf x0) ∗ owns (c : Thread nD τ) arg10 fullShare (lanesOf x0) ∗ (∃ d, owns (c : Thread nD τ) arg11 fullShare d)) -∗ K ⟨⟩))
          ⊢ wp frame (wpE (defs₀ (F := F)) Variants.none c none) E (cc0_w4a8_linear i arg1 harg1 arg2 harg2 arg3 harg3 arg4 harg4 arg5 harg5 arg6 harg6 arg7 harg7 arg8 harg8 arg9 harg9 arg10 harg10 arg11 harg11) K := by
    intro E K
    simp only [cc0_w4a8_linear_eq_skeleton]; unfold cc0_w4a8_linear_skel
    simp only [k0_part21_eq_skeleton, k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      have hw : kernelRun0_A.sl.v436 c arg2 harg2 arg3 harg3 arg4 harg4 arg11 x1 x2 x3 = wOf x1 x2 x3 := by
        refine (View.readCov_eq_canon_ld _ _ _ ?_).trans ?_
        · exact View.cover_of_tiled _ S128x1024.size (by rfl)
        refine (View.ld_unit_zero zero2 _ _).trans ?_
        delta kernelRun0_A.sl.HS2_18
        delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64
        simp only [View.readAt_eq_ld, hf1, hf2, hf3]
        rfl
      have ha : kernelRun0_A.sl.v435 c arg1 harg1 arg9 x0 = actOf x0 := by
        refine (View.readCov_eq_canon_ld _ _ _ ?_).trans ?_
        · exact View.cover_of_tiled _ S128x2304.size (by rfl)
        refine (View.ld_unit_zero zero2 _ _).trans ?_
        delta kernelRun0_A.sl.HS0_8
        delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64
        simp only [View.readAt_eq_ld, hf0]
        rfl
      have hl : kernelRun0_A.sl.v438 c arg1 harg1 arg10 x0 = lanesOf x0 := by
        refine (View.readCov_eq_canon_ld _ _ _ ?_).trans ?_
        · exact View.cover_of_tiled _ S128x128.size (by rfl)
        refine (View.ld_unit_zero zero2 _ _).trans ?_
        delta kernelRun0_A.sl.HS1_8
        delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64
        simp only [View.readAt_eq_ld, hf0]
        rfl
      refine (View.read_writes_eq_canon _ _ _ ?_).trans ?_
      · exact View.cover_of_tiled _ S1024x128.size (by rfl)
      delta kernelRun0_A.sl.r_65 kernelRun0_A.sl.r_66 kernelRun0_A.sl.r_67 kernelRun0_A.sl.r_68
      rw [hw, ha, hl]
      simp only [View.readAt_eq_ld, hf4]
      rfl
    isplitl [H6]
    · iexists _; isplitr; swap; · iexact H6
      ipureintro
      refine (View.read_writes_eq_canon _ _ _ ?_).trans ?_
      · exact View.cover_of_tiled _ S128x2304.size (by rfl)
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64
      simp only [View.readAt_eq_ld, hf0]
      rfl
    isplitl [H7]
    · iexists _; isplitr; swap; · iexact H7
      ipureintro
      refine (View.read_writes_eq_canon _ _ _ ?_).trans ?_
      · exact View.cover_of_tiled _ S128x1.size (by rfl)
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64
      simp only [View.readAt_eq_ld, hf0]
      rfl
    isplitl [HS0]
    · iexists _; isplitr; swap; · iexact HS0
      ipureintro
      refine (View.read_writes_eq_canon _ _ _ ?_).trans ?_
      · exact View.cover_of_tiled _ S128x2304.size (by rfl)
      delta kernelRun0_A.sl.HS0_8
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64
      simp only [View.readAt_eq_ld, hf0]
      rfl
    isplitl [HS1]
    · iexists _; isplitr; swap; · iexact HS1
      ipureintro
      refine (View.read_writes_eq_canon _ _ _ ?_).trans ?_
      · exact View.cover_of_tiled _ S128x128.size (by rfl)
      delta kernelRun0_A.sl.HS1_8
      delta kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_60 kernelRun0_A.sl.r_61 kernelRun0_A.sl.r_62 kernelRun0_A.sl.r_63 kernelRun0_A.sl.r_64
      simp only [View.readAt_eq_ld, hf0]
      rfl
    iexists _, _; isplitr; swap; · iexact HS2
    ipureintro; rfl

end Cert.KernelIdeal.Gen

end
-- ==== Proof.Body.lean ====
/- The pipeline's proof data, the body at every grid point, the run of the whole program and its frame. -/
module

public import proofs.«01_k».proof.Proof.RunA
public import Idealize.ShloMosaic.Lib.Claim
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The activations as the body sees them: the whole array, at every grid point. -/
def xBlk (c : Dev nD) : Vec F S1024x2304 .bf16 := iblk m c 0 ⟨0, by rw [show cfg0.N = 18 from N_0]; decide⟩

/-- The activations' block does not depend on the grid point. -/
theorem iblk0_eq (c : Dev nD) (t : Fin cfg0.N) : iblk m c 0 t = xBlk m c := rfl

/-- What the scratch buffers hold from the second grid point on: the quantised activations and their scales, spread over
    128 lanes; the weights' buffer holds anything. -/
def carried (c : Dev nD) : sProp 𝕄 :=
  iprop(iprop(owns (c : Thread nD τ) scM0_0 fullShare (actOf (xBlk m c)) ∗ owns (c : Thread nD τ) scM0_1 fullShare (lanesOf (xBlk m c))
    ∗ (∃ d, owns (c : Thread nD τ) scM0_2 fullShare d)) ∗ (∃ r, prngReg c r))

/-- What the kernel keeps between grid points: before the first one its buffers hold anything, afterwards `carried`. -/
def keeps (c : Dev nD) (n : ℕ) : sProp 𝕄 := if n = 0 then Pipeline.ΦA spec0 c else carried m c

/-- The proof data of the pipeline on core `c`: the arrays as the region finds them; after the body at point `t` each
    input's buffer at its block, the output tile at the product of the quantised activations with the block's weights,
    the codes and the scales those of the activations; between points `keeps`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yOf (actOf (xBlk m c)) (lanesOf (xBlk m c)) (iblk m c 1 t) (iblk m c 2 t) (iblk m c 3 t) (iblk m c 4 t)
    | ⟨6, _⟩ => codesOf (xBlk m c)
    | ⟨7, _⟩ => scaleOf (xBlk m c)
  Φ t := keeps m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem after0_5 (c : Dev nD) (t : Fin cfg0.N) : (dats m 0 c).after 5 t = yOf (actOf (xBlk m c)) (lanesOf (xBlk m c)) (iblk m c 1 t) (iblk m c 2 t) (iblk m c 3 t) (iblk m c 4 t) := by dsimp only [dats]
theorem after0_6 (c : Dev nD) (t : Fin cfg0.N) : (dats m 0 c).after 6 t = codesOf (xBlk m c) := by dsimp only [dats]
theorem after0_7 (c : Dev nD) (t : Fin cfg0.N) : (dats m 0 c).after 7 t = scaleOf (xBlk m c) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Window 6 is stored at the first point only. -/
theorem idle0_6 (t : Fin cfg0.N) : cfg0.idle 6 (grid0.coords t) = true ↔ t.val ≠ 0 := by
  have hN : t.val < 18 := lt_of_lt_of_eq t.isLt (show cfg0.N = 18 from N_0)
  have h := hcond0_0 t
  show (!(k0_cond1 (grid0.coords t) == 1#1)) = true ↔ _
  rw [Bool.not_eq_true', beq_eq_false_iff_ne, ne_eq, show (k0_cond1 (grid0.coords t) = 1#1) ↔ _ from h]
  omega

/-- Once stored, its buffer stays filled until the write-back at the last point. -/
theorem fresh0_6 : ∀ n, 0 < n → n < 18 → cfg0.fresh 6 n = false := by
  intro n hn h18
  obtain ⟨k, rfl⟩ : ∃ k, n = k + 1 := ⟨n - 1, by omega⟩
  have hk : k < cfg0.N := by rw [show cfg0.N = 18 from N_0]; omega
  rw [cfg0.fresh_succ 6 k hk]
  have hf : (cfg0.win 6).flush ⟨k, hk⟩ = false := by
    rw [Bool.eq_false_iff, ne_eq, flush0_6]; simp only; omega
  rw [hf, Bool.false_or]
  by_cases h0 : k = 0
  · have : cfg0.idle 6 (grid0.coords ⟨k, hk⟩) = false := by
      rw [Bool.eq_false_iff, ne_eq, idle0_6]; simp only; omega
    rw [show cfg0.idle 6 (cfg0.grid.coords ⟨k, hk⟩) = false from this, Bool.false_and]
  · rw [fresh0_6 k (by omega) (by omega), Bool.and_false]

/-- After the first point the codes' buffer still holds the codes. -/
theorem before0_6 (c : Dev nD) (t : Fin cfg0.N) (ht : t.val ≠ 0) (d) : (dats m 0 c).before 6 t d = codesOf (xBlk m c) := by
  have hN : t.val < 18 := lt_of_lt_of_eq t.isLt (show cfg0.N = 18 from N_0)
  rw [(dats m 0 c).before_out_traj 6 rfl (fun _ _ => rfl) (fun t _ _ _ => by rw [after0_6, after0_6]) t.val t rfl d,
    fresh0_6 t.val (by omega) hN, if_neg Bool.false_ne_true, after0_6]

/-- At the first point the body's store is what the pipeline is handed. -/
theorem leaves0_6_A (c : Dev nD) (t : Fin cfg0.N) (ht : t.val = 0) :
    (owns (c : Thread nD τ) (ms0_6 t) fullShare (codesOf (xBlk m c)) : sProp 𝕄) ⊢ (dats m 0 c).leavesExact 6 t := by
  unfold Dat.leavesExact
  rw [show cfg0.idle 6 (cfg0.grid.coords t) = false from by rw [Bool.eq_false_iff, ne_eq]; exact fun h => (idle0_6 t).1 h ht, after0_6]

/-- At a later point the buffer goes back as it was found. -/
theorem leaves0_6_B (c : Dev nD) (t : Fin cfg0.N) (ht : t.val ≠ 0) :
    (owns (c : Thread nD τ) (ms0_6 t) fullShare (codesOf (xBlk m c)) : sProp 𝕄) ⊢ (dats m 0 c).leavesExact 6 t := by
  unfold Dat.leavesExact
  rw [show cfg0.idle 6 (cfg0.grid.coords t) = true from (idle0_6 t).2 ht, after0_6]
  cases (cfg0.win 6).flush t
  · simp only [before0_6 m c t ht]
    iintro H
    iexists (codesOf (xBlk m c)); iexact H
  · exact .rfl

/-- Window 7 is stored at the first point only. -/
theorem idle0_7 (t : Fin cfg0.N) : cfg0.idle 7 (grid0.coords t) = true ↔ t.val ≠ 0 := by
  have hN : t.val < 18 := lt_of_lt_of_eq t.isLt (show cfg0.N = 18 from N_0)
  have h := hcond0_0 t
  show (!(k0_cond1 (grid0.coords t) == 1#1)) = true ↔ _
  rw [Bool.not_eq_true', beq_eq_false_iff_ne, ne_eq, show (k0_cond1 (grid0.coords t) = 1#1) ↔ _ from h]
  omega

/-- Once stored, its buffer stays filled until the write-back at the last point. -/
theorem fresh0_7 : ∀ n, 0 < n → n < 18 → cfg0.fresh 7 n = false := by
  intro n hn h18
  obtain ⟨k, rfl⟩ : ∃ k, n = k + 1 := ⟨n - 1, by omega⟩
  have hk : k < cfg0.N := by rw [show cfg0.N = 18 from N_0]; omega
  rw [cfg0.fresh_succ 7 k hk]
  have hf : (cfg0.win 7).flush ⟨k, hk⟩ = false := by
    rw [Bool.eq_false_iff, ne_eq, flush0_7]; simp only; omega
  rw [hf, Bool.false_or]
  by_cases h0 : k = 0
  · have : cfg0.idle 7 (grid0.coords ⟨k, hk⟩) = false := by
      rw [Bool.eq_false_iff, ne_eq, idle0_7]; simp only; omega
    rw [show cfg0.idle 7 (cfg0.grid.coords ⟨k, hk⟩) = false from this, Bool.false_and]
  · rw [fresh0_7 k (by omega) (by omega), Bool.and_false]

/-- After the first point the scales' buffer still holds the scales. -/
theorem before0_7 (c : Dev nD) (t : Fin cfg0.N) (ht : t.val ≠ 0) (d) : (dats m 0 c).before 7 t d = scaleOf (xBlk m c) := by
  have hN : t.val < 18 := lt_of_lt_of_eq t.isLt (show cfg0.N = 18 from N_0)
  rw [(dats m 0 c).before_out_traj 7 rfl (fun _ _ => rfl) (fun t _ _ _ => by rw [after0_7, after0_7]) t.val t rfl d,
    fresh0_7 t.val (by omega) hN, if_neg Bool.false_ne_true, after0_7]

/-- At the first point the body's store is what the pipeline is handed. -/
theorem leaves0_7_A (c : Dev nD) (t : Fin cfg0.N) (ht : t.val = 0) :
    (owns (c : Thread nD τ) (ms0_7 t) fullShare (scaleOf (xBlk m c)) : sProp 𝕄) ⊢ (dats m 0 c).leavesExact 7 t := by
  unfold Dat.leavesExact
  rw [show cfg0.idle 7 (cfg0.grid.coords t) = false from by rw [Bool.eq_false_iff, ne_eq]; exact fun h => (idle0_7 t).1 h ht, after0_7]

/-- At a later point the buffer goes back as it was found. -/
theorem leaves0_7_B (c : Dev nD) (t : Fin cfg0.N) (ht : t.val ≠ 0) :
    (owns (c : Thread nD τ) (ms0_7 t) fullShare (scaleOf (xBlk m c)) : sProp 𝕄) ⊢ (dats m 0 c).leavesExact 7 t := by
  unfold Dat.leavesExact
  rw [show cfg0.idle 7 (cfg0.grid.coords t) = true from (idle0_7 t).2 ht, after0_7]
  cases (cfg0.win 7).flush t
  · simp only [before0_7 m c t ht]
    iintro H
    iexists (scaleOf (xBlk m c)); iexact H
  · exact .rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = keeps m c (t.val + 1) from rfl, show (dats m 0 c).Φ t.castSucc = keeps m c t.val from rfl,
    show (dats m 0 c).owesAt () t.succ = (dats m 0 c).owesAt () t.castSucc from rfl]
  rw [show keeps m c (t.val + 1) = carried m c from if_neg (Nat.succ_ne_zero _)]
  unfold carried
  have hN : t.val < 18 := lt_of_lt_of_eq t.isLt (show cfg0.N = 18 from N_0)
  by_cases h0 : t.val % 18 = 0
  · rw [show keeps m c t.val = Pipeline.ΦA spec0 c from if_pos (by omega), PhiA0_eq]
    simp only [iblk0_eq]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from rfl, after0_5]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ ((hcond0_0 t).mpr h0) (xBlk m c) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6_A m c t (by omega)); iexact H6
    iapply (leaves0_7_A m c t (by omega)); iexact H7
  · have ht : t.val ≠ 0 := by omega
    rw [show keeps m c t.val = carried m c from if_neg ht]
    unfold carried
    simp only [before0_6 m c t ht, before0_7 m c t ht]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from rfl, after0_5]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (codesOf (xBlk m c)) (scaleOf (xBlk m c)) (actOf (xBlk m c)) (lanesOf (xBlk m c))) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6_B m c t ht); iexact H6
    iapply (leaves0_7_B m c t ht); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point the kernel's buffers hold anything, -/
theorem keeps_first (c : Dev nD) : (Pipeline.ΦA spec0 c : sProp 𝕄) ⊢ (dats m 0 c).Φ 0 := by
  rw [show (dats m 0 c).Φ 0 = keeps m c 0 from rfl, show keeps m c 0 = Pipeline.ΦA spec0 c from if_pos rfl]

/-- and what they hold after the last one may be forgotten. -/
theorem keeps_last (c : Dev nD) : (dats m 0 c).Φ (Fin.last cfg0.N) ⊢ (Pipeline.ΦA spec0 c : sProp 𝕄) := by
  rw [show (dats m 0 c).Φ (Fin.last cfg0.N) = keeps m c cfg0.N from rfl,
    show keeps m c cfg0.N = carried m c from if_neg (by rw [show cfg0.N = 18 from N_0]; decide), PhiA0_eq]
  unfold carried
  iintro ⟨⟨HS0, HS1, HS2⟩, Hg⟩
  isplitl [HS0 HS1 HS2]
  · isplitl [HS0]
    · iexists _; iexact HS0
    isplitl [HS1]
    · iexists _; iexact HS1
    iexact HS2
  iexact Hg

set_option backward.isDefEq.respectTransparency.types false in
set_option maxHeartbeats 800000 in
/-- The launch: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := keeps_first m) (hout := keeps_last m)

/-- Every execution of @main terminates, and every final state has every array of the pipeline at what the proof data
    say and every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every execution terminates with the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Kernel.Runs.lean ====
/- What the two runs of the kernel body share: the branch condition in closed form over the grid points, the staging and
   scratch memrefs as the pipeline passes them, and the scoped scratch as memrefs owned at some contents. -/
module

public import proofs.«01_k».proof.Proof.Gen.Kernel.Skeleton
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 18 = 0 :=
  (fun t => by
    have ht : t.val < 18 := Nat.lt_of_lt_of_eq t.isLt N_0
    have e0 : (grid0.coords t 0).val = t.val / 1 % 18 := Pipeline.Grid.coords_val t 0 (by decide) rfl
    simp only [cond0_0, k0_cond1, e0]
    word_cmp
   : ∀ t : Fin grid0.N, cond0_0 (grid0.coords t) ↔ t.val % 18 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1152x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S18x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S18x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2304 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x2304 .bf16 := Memref.whole cc0_scratch0
abbrev scM0_1 : Memref sig .tc .vmem S1024x128 .f32 := Memref.whole cc0_scratch1
abbrev scM0_2 : Memref sig .tc .vmem S2304x1024 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.Kernel.RunA.lean ====
/- The kernel body's run at the first grid point, for the frame: nothing is said of what it computes. -/
module

public import proofs.«01_k».proof.Proof.Kernel.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1208000 in
/-- The body at the first grid point: from whole staging buffers holding the five inputs' blocks, and the outputs and scratch
    buffers holding anything, it runs to the continuation with the inputs as they were and the rest at some contents. -/
theorem kernelRun0_A (c : Dev nD) (i : grid0.Coords) (arg1 : Memref sig .tc .vmem S1024x2304 .bf16) (harg1 : arg1.IsWhole) (arg2 : Memref sig .tc .vmem S1152x1024 .i8) (harg2 : arg2.IsWhole) (arg3 : Memref sig .tc .vmem S18x1024 .i8) (harg3 : arg3.IsWhole) (arg4 : Memref sig .tc .vmem S18x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x2304 .fp8e4m3) (harg7 : arg7.IsWhole) (arg8 : Memref sig .tc .vmem S1024x1 .f32) (harg8 : arg8.IsWhole) (arg9 : Memref sig .tc .vmem S1024x2304 .bf16) (harg9 : arg9.IsWhole) (arg10 : Memref sig .tc .vmem S1024x128 .f32) (harg10 : arg10.IsWhole) (arg11 : Memref sig .tc .vmem S2304x1024 .bf16) (harg11 : arg11.IsWhole) (hc0 : cond0_0 i)
    (x0 : Vec F S1024x2304 .bf16) (x1 : Vec F S1152x1024 .i8) (x2 : Vec F S18x1024 .i8) (x3 : Vec F S18x1024 .f32) (x4 : Vec F S1x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_w4a8_linear i arg1 harg1 arg2 harg2 arg3 harg3 arg4 harg4 arg5 harg5 arg6 harg6 arg7 harg7 arg8 harg8 arg9 harg9 arg10 harg10 arg11 harg11) K := by
    intro E K
    simp only [cc0_w4a8_linear_eq_skeleton]; unfold cc0_w4a8_linear_skel
    simp only [k0_part21_eq_skeleton, k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.Kernel.RunB.lean ====
/- The kernel body's run at a later grid point, for the frame: nothing is said of what it computes. -/
module

public import proofs.«01_k».proof.Proof.Kernel.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later grid point: from whole staging buffers holding the five inputs' blocks, and the outputs and scratch
    buffers holding anything, it runs to the continuation with the inputs as they were and the rest at some contents. -/
theorem kernelRun0_B (c : Dev nD) (i : grid0.Coords) (arg1 : Memref sig .tc .vmem S1024x2304 .bf16) (harg1 : arg1.IsWhole) (arg2 : Memref sig .tc .vmem S1152x1024 .i8) (harg2 : arg2.IsWhole) (arg3 : Memref sig .tc .vmem S18x1024 .i8) (harg3 : arg3.IsWhole) (arg4 : Memref sig .tc .vmem S18x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x2304 .fp8e4m3) (harg7 : arg7.IsWhole) (arg8 : Memref sig .tc .vmem S1024x1 .f32) (harg8 : arg8.IsWhole) (arg9 : Memref sig .tc .vmem S1024x2304 .bf16) (harg9 : arg9.IsWhole) (arg10 : Memref sig .tc .vmem S1024x128 .f32) (harg10 : arg10.IsWhole) (arg11 : Memref sig .tc .vmem S2304x1024 .bf16) (harg11 : arg11.IsWhole) (hc0 : ¬cond0_0 i)
    (x0 : Vec F S1024x2304 .bf16) (x1 : Vec F S1152x1024 .i8) (x2 : Vec F S18x1024 .i8) (x3 : Vec F S18x1024 .f32) (x4 : Vec F S1x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_w4a8_linear i arg1 harg1 arg2 harg2 arg3 harg3 arg4 harg4 arg5 harg5 arg6 harg6 arg7 harg7 arg8 harg8 arg9 harg9 arg10 harg10 arg11 harg11) K := by
    intro E K
    simp only [cc0_w4a8_linear_eq_skeleton]; unfold cc0_w4a8_linear_skel
    simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.Kernel.Frame.lean ====
/- The frame of the kernel as printed: it terminates, leaves its arguments unchanged and its counters at zero. Nothing is
   said here of what it computes. -/
module

public import proofs.«01_k».proof.Proof.Kernel.RunB
public import Idealize.ShloMosaic.Lib.Claim
public import Idealize.ShloMosaic.Lib.Pipeline.TableIdle

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
/-- The body at any point: the inputs' buffers hold their blocks, so the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 18 := lt_of_lt_of_eq t.isLt (show cfg0.N = 18 from N_0)
  by_cases h0 : t.val % 18 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The frame claim's post from a run that says nothing of the outputs: each argument array ends as it was launched. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_forgotten m ρ (fun c => (dats m 0 c).toRForget forgets0) (A_eq m) (run_main m ρ)

/-- The frame: every execution terminates with the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.Exponent.lean ====
/- One number's power-of-two exponent, found two ways: by the kernel, which searches the biased exponent bit by bit with
   comparisons against powers of two, and by the reference, which takes a logarithm. On the numbers a row of finite
   bfloat16 values gives, the two scales and the two inverse scales are the same real numbers. -/
module

public import Idealize.ShloMosaic.PureOps
public import Idealize.ShloMosaic.PureOps.Ideal
public import Idealize.ShloMosaic.PureOps.Ideal.Laws

@[expose] public section

noncomputable section

namespace Cert.Quant

open Idealize.ShloMosaic

/-! ## The bit-by-bit search -/

/-- One step of the search: the bit `s` is set in `b` unless the power at the trial value already exceeds the number
    (`c trial = 1`). -/
def step (c : BitVec 32 → BitVec 1) (b s : BitVec 32) : BitVec 32 :=
  Scalar.select (c (b + s)) b (b + s)

/-- The search over the eight bits of a biased exponent, highest first. -/
def search (c : BitVec 32 → BitVec 1) : BitVec 32 :=
  step c (step c (step c (step c (step c (step c (step c (step c 0#32 128#32) 64#32) 32#32) 16#32) 8#32) 4#32) 2#32) 1#32

/-- A step keeps the searched value `n` in a window half as wide. -/
theorem step_window (c : BitVec 32 → BitVec 1) (n : Nat)
    (hc : ∀ t : Nat, 1 ≤ t → t ≤ 255 → c (BitVec.ofNat 32 t) = BitVec.ofBool (decide (n < t)))
    (b : BitVec 32) (k s : Nat) (hb : b = BitVec.ofNat 32 k) (hs : 1 ≤ s) (h1 : k ≤ n) (h2 : n < k + 2 * s)
    (h3 : k + 2 * s ≤ 256) :
    ∃ k', step c b (BitVec.ofNat 32 s) = BitVec.ofNat 32 k' ∧ k' ≤ n ∧ n < k' + s ∧ k' + s ≤ 256 := by
  subst hb
  have ha : BitVec.ofNat 32 k + BitVec.ofNat 32 s = BitVec.ofNat 32 (k + s) := (BitVec.ofNat_add k s).symm
  unfold step
  rw [ha, hc (k + s) (by omega) (by omega)]
  by_cases h : n < k + s
  · refine ⟨k, ?_, h1, h, by omega⟩
    simp [h, Scalar.select]
  · refine ⟨k + s, ?_, by omega, by omega, by omega⟩
    simp [h, Scalar.select]

/-- The search finds the value its comparisons describe. -/
theorem search_eq (c : BitVec 32 → BitVec 1) (n : Nat) (hn : n < 256)
    (hc : ∀ t : Nat, 1 ≤ t → t ≤ 255 → c (BitVec.ofNat 32 t) = BitVec.ofBool (decide (n < t))) :
    search c = BitVec.ofNat 32 n := by
  unfold search
  obtain ⟨k1, e1, a1, b1, d1⟩ := step_window c n hc 0#32 0 128 rfl (by omega) (by omega) (by omega) (by omega)
  obtain ⟨k2, e2, a2, b2, d2⟩ := step_window c n hc _ k1 64 e1 (by omega) a1 b1 d1
  obtain ⟨k3, e3, a3, b3, d3⟩ := step_window c n hc _ k2 32 e2 (by omega) a2 b2 d2
  obtain ⟨k4, e4, a4, b4, d4⟩ := step_window c n hc _ k3 16 e3 (by omega) a3 b3 d3
  obtain ⟨k5, e5, a5, b5, d5⟩ := step_window c n hc _ k4 8 e4 (by omega) a4 b4 d4
  obtain ⟨k6, e6, a6, b6, d6⟩ := step_window c n hc _ k5 4 e5 (by omega) a5 b5 d5
  obtain ⟨k7, e7, a7, b7, d7⟩ := step_window c n hc _ k6 2 e6 (by omega) a6 b6 d6
  obtain ⟨k8, e8, a8, b8, d8⟩ := step_window c n hc _ k7 1 e7 (by omega) a7 b7 d7
  rw [show n = k8 by omega]
  exact e8

/-! ## The kernel's exponent and powers -/

/-- The float whose biased exponent is the word `t`, its fraction zero. -/
def power (t : BitVec 32) : EReal := Ideal.ofBits .f32 (IntOp.shli .vector t 23#32)

/-- The kernel's exponent of `v`: the biased exponent less 126, and zero where that is zero. -/
def kexp (v : EReal) : BitVec 32 :=
  Scalar.select (IntOp.cmpi .eq (search fun t => Ideal.cmp .olt v (power t)) 0#32) 0#32
    ((search fun t => Ideal.cmp .olt v (power t)) - 126#32)

/-- The kernel's scale of `v`, and the inverse scale it multiplies by. -/
def kscale (v : EReal) : EReal := power (kexp v + 127#32)
def kinv (v : EReal) : EReal := power ((0#32 - kexp v) + 127#32)

/-- What a single-precision word with biased exponent `t`, zero fraction and no sign denotes. -/
theorem ieee_of_fields (b : BitVec 32) (t : Nat) (h1 : 1 ≤ t) (h2 : t ≤ 254) (he : (b.extractLsb' 23 8).toNat = t)
    (hf : (b.extractLsb' 0 23).toNat = 0) (hn : (b.extractLsb' 31 1 == 1#1) = false) :
    Ideal.ieee 8 23 b = (((2 : ℝ) ^ ((t : ℤ) - 127) : ℝ) : EReal) := by
  unfold Ideal.ieee
  simp only [he, hf, Nat.reduceAdd, hn]
  rw [if_neg (by omega), if_neg (by omega)]
  congr 1
  norm_num
  rw [show ((t : ℤ) - 127 - 23) = (t : ℤ) - 127 + (-23) by ring, zpow_add₀ (by norm_num)]
  norm_num
  ring

/-- The fields of the words the kernel builds. -/
theorem shifted_fields : ∀ u : Fin 255, ((BitVec.ofNat 32 u.val <<< 23#32).extractLsb' 23 8).toNat = u.val
    ∧ ((BitVec.ofNat 32 u.val <<< 23#32).extractLsb' 0 23).toNat = 0
    ∧ ((BitVec.ofNat 32 u.val <<< 23#32).extractLsb' 31 1 == 1#1) = false := by decide +kernel

/-- The powers of two a biased exponent from 1 to 254 names. -/
theorem power_ofNat (t : Nat) (h1 : 1 ≤ t) (h2 : t ≤ 254) :
    power (BitVec.ofNat 32 t) = (((2 : ℝ) ^ ((t : ℤ) - 127) : ℝ) : EReal) := by
  have hs : IntOp.shli .vector (BitVec.ofNat 32 t) 23#32 = BitVec.ofNat 32 t <<< 23#32 := by
    unfold IntOp.shli; rw [if_pos (by decide)]
  have hall := shifted_fields ⟨t, by omega⟩
  unfold power
  rw [hs]
  exact ieee_of_fields _ t h1 h2 hall.1 hall.2.1 hall.2.2

/-- The all-ones biased exponent names infinity. -/
theorem power_255 : power (BitVec.ofNat 32 255) = ⊤ := by
  unfold power
  rw [show IntOp.shli .vector (BitVec.ofNat 32 255) 23#32 = 0x7F800000#32 by decide]
  show Ideal.ieee 8 23 0x7F800000#32 = ⊤
  unfold Ideal.ieee
  simp [show BitVec.extractLsb' 23 8 0x7F800000#32 = 255#8 by decide,
    show BitVec.extractLsb' 0 23 0x7F800000#32 = 0#23 by decide, show BitVec.extractLsb' 31 1 0x7F800000#32 = 0#1 by decide]

/-! ## The reference's exponent -/

/-- The reference's exponent of `v`: the floor of its binary logarithm plus one, and zero below the least normal float. -/
def rexp (v : EReal) : EReal :=
  Scalar.select (Ideal.cmp .olt v (Ideal.ofBits .f32 0x00800000#32)) (Ideal.ofBits .f32 0x00000000#32)
    (Ideal.liftRound Int.floor (Ideal.div (Ideal.log v) (Ideal.log (Ideal.ofBits .f32 0x40000000#32)))
      + Ideal.ofBits .f32 0x3F800000#32)

/-- The reference's scale of `v`, and the inverse scale it multiplies by. -/
def rscale (v : EReal) : EReal := Ideal.exp2 (rexp v)
def rinv (v : EReal) : EReal := Ideal.exp2 (Ideal.ofBits .f32 0x00000000#32 - rexp v)

/-- Words of the reference's constants. -/
theorem ofBits_one : Ideal.ofBits .f32 0x3F800000#32 = ((1 : ℝ) : EReal) := by
  have h := power_ofNat 127 (by omega) (by omega)
  rw [show power (BitVec.ofNat 32 127) = Ideal.ofBits .f32 0x3F800000#32 by
    unfold power; rw [show IntOp.shli .vector (BitVec.ofNat 32 127) 23#32 = 0x3F800000#32 by decide]] at h
  rw [h]; norm_num
theorem ofBits_two : Ideal.ofBits .f32 0x40000000#32 = ((2 : ℝ) : EReal) := by
  have h := power_ofNat 128 (by omega) (by omega)
  rw [show power (BitVec.ofNat 32 128) = Ideal.ofBits .f32 0x40000000#32 by
    unfold power; rw [show IntOp.shli .vector (BitVec.ofNat 32 128) 23#32 = 0x40000000#32 by decide]] at h
  rw [h]; norm_num
theorem ofBits_least : Ideal.ofBits .f32 0x00800000#32 = (((2 : ℝ) ^ (-126 : ℤ) : ℝ) : EReal) := by
  have h := power_ofNat 1 (by omega) (by omega)
  rw [show power (BitVec.ofNat 32 1) = Ideal.ofBits .f32 0x00800000#32 by
    unfold power; rw [show IntOp.shli .vector (BitVec.ofNat 32 1) 23#32 = 0x00800000#32 by decide]] at h
  rw [h]; norm_num

/-- The binary logarithm. -/
def lg (v : ℝ) : ℝ := Real.log v / Real.log 2

/-- A power of two below another is a matter of exponents: `v < 2 ^ e` where `2 ^ k ≤ v < 2 ^ (k + 1)`. -/
theorem lt_zpow_iff (v : ℝ) (hv : 0 < v) (e : ℤ) : v < (2 : ℝ) ^ e ↔ ⌊lg v⌋ < e := by
  rw [Int.floor_lt, lg, div_lt_iff₀ (Real.log_pos (by norm_num)), ← Real.log_zpow,
    Real.log_lt_log_iff hv (by positivity)]

/-- The reference's exponent of a normal number. -/
theorem rexp_of_normal (v : ℝ) (h : (2 : ℝ) ^ (-126 : ℤ) ≤ v) :
    rexp (v : EReal) = (((⌊lg v⌋ + 1 : ℤ) : ℝ) : EReal) := by
  have hv : 0 < v := lt_of_lt_of_le (by positivity) h
  unfold rexp
  rw [ofBits_least, ofBits_two, ofBits_one]
  have hc : Ideal.cmp .olt (v : EReal) (((2 : ℝ) ^ (-126 : ℤ) : ℝ) : EReal) = 0#1 := by
    unfold Ideal.cmp
    simp only [EReal.coe_lt_coe_iff, not_lt.mpr h, decide_false]; rfl
  rw [hc]
  have hl2 : Real.log 2 ≠ 0 := (Real.log_pos (by norm_num)).ne'
  have hd : Ideal.div (Ideal.log (v : EReal)) (Ideal.log ((2 : ℝ) : EReal)) = ((lg v : ℝ) : EReal) := by
    rw [Ideal.log_coe, Ideal.log_coe, if_neg (not_le.mpr hv), if_neg (by norm_num)]
    unfold Ideal.div
    rw [if_neg (by exact_mod_cast hl2), ← EReal.coe_inv, ← EReal.coe_mul]
    rfl
  rw [hd]
  show (((⌊lg v⌋ : ℤ) : ℝ) : EReal) + ((1 : ℝ) : EReal) = _
  rw [← EReal.coe_add]; push_cast; rfl

/-- The reference's exponent of a number below the normal ones. -/
theorem rexp_of_small (v : ℝ) (h : v < (2 : ℝ) ^ (-126 : ℤ)) : rexp (v : EReal) = ((0 : ℝ) : EReal) := by
  unfold rexp
  rw [ofBits_least]
  have hc : Ideal.cmp .olt (v : EReal) (((2 : ℝ) ^ (-126 : ℤ) : ℝ) : EReal) = 1#1 := by
    unfold Ideal.cmp
    simp only [EReal.coe_lt_coe_iff, h, decide_true]; rfl
  rw [hc]
  show Ideal.ofBits .f32 0x00000000#32 = _
  rw [Ideal.ofBits_zero_f32]; rfl

/-! ## The two agree -/

/-- The kernel's exponent of a normal number below `2 ^ 120`, as a word: its binary logarithm's floor, plus one. -/
theorem kexp_of_normal (v : ℝ) (h : (2 : ℝ) ^ (-126 : ℤ) ≤ v) (h' : v < (2 : ℝ) ^ (120 : ℤ)) :
    ∃ n : Nat, 1 ≤ n ∧ n ≤ 246 ∧ (n : ℤ) = ⌊lg v⌋ + 127 ∧ kexp (v : EReal) = BitVec.ofNat 32 n - 126#32 := by
  have hv : 0 < v := lt_of_lt_of_le (by positivity) h
  have hhi : ⌊lg v⌋ < 120 := (lt_zpow_iff v hv 120).mp h'
  have hlo : ¬ ⌊lg v⌋ < -126 := fun hh => absurd ((lt_zpow_iff v hv (-126)).mpr hh) (not_lt.mpr h)
  obtain ⟨n, hn⟩ : ∃ n : Nat, (n : ℤ) = ⌊lg v⌋ + 127 := ⟨(⌊lg v⌋ + 127).toNat, by omega⟩
  have hs : (search fun t => Ideal.cmp .olt (v : EReal) (power t)) = BitVec.ofNat 32 n := by
    refine search_eq _ n (by omega) fun t h1 h2 => ?_
    show BitVec.ofBool (decide ((v : EReal) < power (BitVec.ofNat 32 t))) = _
    congr 1
    rw [decide_eq_decide]
    rcases Nat.lt_or_ge t 255 with h3 | h3
    · rw [power_ofNat t h1 (by omega), EReal.coe_lt_coe_iff, lt_zpow_iff v hv]
      omega
    · obtain rfl : t = 255 := by omega
      rw [power_255]
      exact ⟨fun _ => by omega, fun _ => EReal.coe_lt_top v⟩
  refine ⟨n, by omega, by omega, hn, ?_⟩
  unfold kexp
  rw [hs]
  have hne : IntOp.cmpi .eq (BitVec.ofNat 32 n) 0#32 = 0#1 := by
    have : BitVec.ofNat 32 n ≠ 0#32 := fun hh => by
      have := congrArg BitVec.toNat hh
      simp at this; omega
    show BitVec.ofBool (BitVec.ofNat 32 n == 0#32) = 0#1
    rw [beq_eq_false_iff_ne.mpr this]; rfl
  rw [hne]; rfl

/-- The kernel's exponent of a nonnegative number below the normal ones. -/
theorem kexp_of_small (v : ℝ) (h : v < (2 : ℝ) ^ (-126 : ℤ)) : kexp (v : EReal) = 0#32 := by
  have hs : (search fun t => Ideal.cmp .olt (v : EReal) (power t)) = BitVec.ofNat 32 0 := by
    refine search_eq _ 0 (by omega) fun t h1 h2 => ?_
    show BitVec.ofBool (decide ((v : EReal) < power (BitVec.ofNat 32 t))) = _
    congr 1
    rw [decide_eq_decide]
    refine ⟨fun _ => by omega, fun _ => ?_⟩
    rcases Nat.lt_or_ge t 255 with h3 | h3
    · rw [power_ofNat t h1 (by omega), EReal.coe_lt_coe_iff]
      exact lt_of_lt_of_le h (zpow_le_zpow_right₀ (by norm_num) (by omega))
    · obtain rfl : t = 255 := by omega
      rw [power_255]; exact EReal.coe_lt_top v
  unfold kexp
  rw [hs]; decide

/-- The two scales, and the two inverse scales, of a number below `2 ^ 120`. -/
theorem scale_inv_eq (v : ℝ) (h' : v < (2 : ℝ) ^ (120 : ℤ)) :
    kscale (v : EReal) = rscale (v : EReal) ∧ kinv (v : EReal) = rinv (v : EReal) := by
  unfold kscale rscale kinv rinv
  rw [Ideal.ofBits_zero_f32]
  rcases lt_or_ge v ((2 : ℝ) ^ (-126 : ℤ)) with h | h
  · rw [kexp_of_small v h, rexp_of_small v h]
    rw [show (0#32 + 127#32 : BitVec 32) = BitVec.ofNat 32 127 by decide,
      show (0#32 - 0#32 + 127#32 : BitVec 32) = BitVec.ofNat 32 127 by decide, power_ofNat 127 (by omega) (by omega)]
    rw [show ((0 : EReal) - ((0 : ℝ) : EReal)) = ((0 : ℝ) : EReal) by norm_num, Ideal.exp2_coe]
    have : Real.rpow 2 0 = 1 := Real.rpow_zero 2
    rw [this]; norm_num
  · obtain ⟨n, h1, h2, hn, hk⟩ := kexp_of_normal v h h'
    rw [hk, rexp_of_normal v h]
    have e1 : BitVec.ofNat 32 n - 126#32 + 127#32 = BitVec.ofNat 32 (n + 1) := by
      apply BitVec.eq_of_toNat_eq; simp; omega
    have e2 : 0#32 - (BitVec.ofNat 32 n - 126#32) + 127#32 = BitVec.ofNat 32 (253 - n) := by
      apply BitVec.eq_of_toNat_eq; simp; omega
    rw [e1, e2, power_ofNat _ (by omega) (by omega), power_ofNat _ (by omega) (by omega), ← EReal.coe_zero,
      ← EReal.coe_sub, Ideal.exp2_coe, Ideal.exp2_coe]
    refine ⟨congrArg _ ?_, congrArg _ ?_⟩
    · show _ = (2 : ℝ) ^ (((⌊lg v⌋ + 1 : ℤ)) : ℝ)
      rw [Real.rpow_intCast]; congr 1; push_cast; omega
    · show _ = (2 : ℝ) ^ ((0 : ℝ) - (((⌊lg v⌋ + 1 : ℤ)) : ℝ))
      rw [← Int.cast_zero, ← Int.cast_sub, Real.rpow_intCast]; congr 1; omega

end Cert.Quant

end
-- ==== Proof.Value.Chunk.lean ====
/- One quantised chunk of 128 rows, read element by element on the extended reals. -/
module

public import proofs.«01_k».proof.Proof.Blocks
public import proofs.«01_k».proof.Proof.Exponent
public import Idealize.ShloMosaic.Lib.Pointwise

@[expose] public section

noncomputable section

namespace Cert.KernelIdeal.Gen

open Idealize.ShloMosaic

/-- A chunk row's largest magnitude over 448. -/
def chunkRatio (v : Vec Ideal S128x2304 .bf16) (i : Fin 128) : EReal :=
  (Finset.univ : Finset (Fin 2304)).fold max (Ideal.ofBits .f32 0xFF800000#32) (fun k => max (v (ix2 i k)) (-(v (ix2 i k))))
    * Ideal.ofBits .f32 0x3B124925#32

/-- The chunk read whole is the chunk. -/
theorem chunk_at (v : Vec Ideal S128x2304 .bf16) (j : S128x2304.Idx) : k0_pay4 (F := Ideal) v j = v j := by
  unfold k0_pay4
  show shapeCast S128x2304 v _ _ = _
  rw [shapeCast_id]

/-- The chunk's row maxima. -/
def chunkMax (v : Vec Ideal S128x2304 .bf16) : FVec Ideal S128 .f32 :=
  multiReduction .maximumf [1] S128 (extf .f32 (absf (k0_pay4 v)) bitsLt_bf16_f32) 0xFF800000#32 reduces_S128x2304_S128 (.inl rfl) rfl

/-- Row maxima over 448 on 128 equal lanes. -/
def chunkLanes (M : FVec Ideal S128 .f32) : FVec Ideal S128x128 .f32 :=
  broadcastTo S128x128 (shapeCast S128x1 (mulf (shapeCast S128x1 M shapeCasts_S128_S128x1)
    (broadcast S128x1 (Scalar.ofBits .f32 0x3B124925#32))) shapeCasts_S128x1_S128x1) broadcasts_S128x1_S128x128

/-- The lanes the search starts from are those of the row maxima. -/
theorem chunkLanes_eq (v : Vec Ideal S128x2304 .bf16) : k0_pay5 v = chunkLanes (chunkMax v) := by
  unfold k0_pay5 chunkLanes chunkMax
  with_reducible rfl

/-- A lane read at a row. -/
theorem chunkLanes_at (M : FVec Ideal S128 .f32) (i l : Fin 128) :
    chunkLanes M (ix2 i l) = M (ix1 i) * Ideal.ofBits .f32 0x3B124925#32 := by
  have h : ∀ N : FVec Ideal S128x1 .f32, broadcastTo S128x128 N broadcasts_S128x1_S128x128 (ix2 i l) = N (ix2 i (0 : Fin 1)) :=
    fun N => Idealize.ShloMosaic.broadcastTo_apply _ broadcasts_S128x1_S128x128 (ix2 i l) (ix2 i (0 : Fin 1)) (fun a => by
      match a with
      | ⟨0, _⟩ => rfl
      | ⟨1, _⟩ => rfl)
  have h' : shapeCast S128x1 M shapeCasts_S128_S128x1 (ix2 i (0 : Fin 1)) = M (ix1 i) := by
    refine Idealize.ShloMosaic.shapeCast_apply _ _ _ _ ?_
    rw [Shape.rowMajor_val_one, Shape.rowMajor_val_two]
    show i.val = i.val * 1 + 0
    omega
  unfold chunkLanes
  rw [h, shapeCast_id, ← h']
  rfl

/-- A chunk row's maximum. -/
theorem chunkMax_apply (v : Vec Ideal S128x2304 .bf16) (i : Fin 128) :
    chunkMax v (ix1 i)
      = (Finset.univ : Finset (Fin 2304)).fold max (Ideal.ofBits .f32 0xFF800000#32) (fun k => max (v (ix2 i k)) (-(v (ix2 i k)))) := by
  unfold chunkMax
  refine (Ideal.multiReduction_maximumf_single _ _ _ _ _ _).trans ?_
  refine congrArg (fun f => (Finset.univ : Finset (Fin 2304)).fold max (Ideal.ofBits .f32 0xFF800000#32) f) (funext fun k => ?_)
  have hl : reduces_S128x2304_S128.lift (ix1 i) k = ix2 i k := by
    funext a
    match a with
    | ⟨0, _⟩ => rfl
    | ⟨1, _⟩ => rfl
  show absf (k0_pay4 v) (reduces_S128x2304_S128.lift (ix1 i) k) = _
  rw [hl]
  have : k0_pay4 (F := Ideal) v (ix2 i k) = v (ix2 i k) := chunk_at v _
  show max (k0_pay4 (F := Ideal) v (ix2 i k)) (-(k0_pay4 (F := Ideal) v (ix2 i k))) = _
  rw [this]

/-- What the search compares, at a row and a lane. -/
theorem lanes_apply (v : Vec Ideal S128x2304 .bf16) (i l : Fin 128) : k0_pay5 v (ix2 i l) = chunkRatio v i :=
  (congrFun (chunkLanes_eq v) _).trans ((chunkLanes_at _ i l).trans
    (congrArg (fun e => e * Ideal.ofBits .f32 0x3B124925#32) (chunkMax_apply v i)))

/-- One step of the search on vectors. -/
def vstep (T : FVec Ideal S128x128 .f32) (b : IVec S128x128 32) (s : BitVec 32) : IVec S128x128 32 :=
  select (cmpf .olt T (bitcastToFloat .f32 (shli (addi b (broadcast S128x128 s)) (broadcast S128x128 23#32)))) b
    (addi b (broadcast S128x128 s))

/-- A step read at an index. -/
theorem vstep_at (T : FVec Ideal S128x128 .f32) (b : IVec S128x128 32) (s : BitVec 32) (j : S128x128.Idx) :
    vstep T b s j = Quant.step (fun t => Ideal.cmp .olt (T j) (Quant.power t)) (b j) s := rfl

/-- The search on vectors. -/
def vsearch (T : FVec Ideal S128x128 .f32) : IVec S128x128 32 :=
  vstep T (vstep T (vstep T (vstep T (vstep T (vstep T (vstep T (vstep T (broadcast S128x128 0#32) 128#32) 64#32) 32#32) 16#32)
    8#32) 4#32) 2#32) 1#32

/-- The search read at an index. -/
theorem vsearch_at (T : FVec Ideal S128x128 .f32) (j : S128x128.Idx) :
    vsearch T j = Quant.search (fun t => Ideal.cmp .olt (T j) (Quant.power t)) := by
  unfold vsearch Quant.search
  rw [vstep_at, vstep_at, vstep_at, vstep_at, vstep_at, vstep_at, vstep_at, vstep_at]
  rfl

/-- The exponent from the searched value. -/
def vexp (b : IVec S128x128 32) : IVec S128x128 32 :=
  select (cmpi .eq b (broadcast S128x128 0#32)) (broadcast S128x128 0#32) (subi b (broadcast S128x128 126#32))

/-- The chunk's exponents are those the search finds. -/
theorem qExp_eq (v : Vec Ideal S128x2304 .bf16) : qExp v = vexp (vsearch (k0_pay5 v)) := by
  unfold qExp k0_pay9 k0_pay8 k0_pay7 k0_pay6 vexp vsearch vstep
  with_reducible rfl

/-- An exponent read at an index. -/
theorem vexp_at (T : FVec Ideal S128x128 .f32) (j : S128x128.Idx) : vexp (vsearch T) j = Quant.kexp (T j) := by
  have e := vsearch_at T j
  unfold Quant.kexp
  rw [← e]
  rfl

/-- The chunk's exponent at a row and a lane. -/
theorem qExp_apply (v : Vec Ideal S128x2304 .bf16) (i l : Fin 128) : qExp v (ix2 i l) = Quant.kexp (chunkRatio v i) :=
  (congrFun (qExp_eq v) _).trans ((vexp_at _ _).trans (congrArg Quant.kexp (lanes_apply v i l)))

/-- The scales from the exponents, at an index. -/
theorem pay11_at (E : IVec S128x128 32) (j : S128x128.Idx) : k0_pay11 (F := Ideal) E j = Quant.power (E j + 127#32) := rfl

/-- The scales on 128 lanes from the exponents. -/
theorem pay13_at (E : IVec S128x128 32) (j : S128x128.Idx) : k0_pay13 (F := Ideal) E j = Quant.power (E j + 127#32) := by
  unfold k0_pay13
  show shapeCast S128x128 (k0_pay11 (F := Ideal) E) _ _ = _
  rw [shapeCast_id]
  rfl

/-- The scales on one lane from the exponents. -/
theorem pay14_at (E : IVec S128x128 32) (i : Fin 128) :
    k0_pay14 (F := Ideal) E (ix2 i (0 : Fin 1)) = Quant.power (E (ix2 i (0 : Fin 128)) + 127#32) := by
  unfold k0_pay14
  refine (Idealize.ShloMosaic.extractStridedSlice_apply _ _ _ (ix2 i (0 : Fin 1)) (ix2 i (0 : Fin 128)) (fun a => by
      match a with
      | ⟨0, _⟩ => exact (Nat.zero_add _).symm
      | ⟨1, _⟩ => rfl)).trans (pay11_at E _)

/-- The chunk's scale at a row and a lane. -/
theorem qLanes_apply (v : Vec Ideal S128x2304 .bf16) (i l : Fin 128) : qLanes v (ix2 i l) = Quant.kscale (chunkRatio v i) :=
  (pay13_at _ _).trans (congrArg (fun e => Quant.power (e + 127#32)) (qExp_apply v i l))

/-- The chunk's scale at a row. -/
theorem qScale_apply (v : Vec Ideal S128x2304 .bf16) (i : Fin 128) :
    qScale v (ix2 i (0 : Fin 1)) = Quant.kscale (chunkRatio v i) :=
  (pay14_at _ i).trans (congrArg (fun e => Quant.power (e + 127#32)) (qExp_apply v i 0))

/-- The inverse scales on 128 lanes from the exponents. -/
def vinv (E : IVec S128x128 32) : FVec Ideal S128x128 .f32 :=
  bitcastToFloat .f32 (shli (addi (subi (broadcast S128x128 0#32) E) (broadcast S128x128 127#32)) (broadcast S128x128 23#32))

/-- An inverse scale read at an index. -/
theorem vinv_at (E : IVec S128x128 32) (j : S128x128.Idx) : vinv E j = Quant.power ((0#32 - E j) + 127#32) := rfl

/-- One lane of the inverse scales along a row. -/
def vrow (B : FVec Ideal S128x128 .f32) : FVec Ideal S128x2304 .bf16 :=
  broadcastTo S128x2304 (truncf .bf16 (extractStridedSlice S128x1 ![0, 0] B slices_S128x128_o0_0_S128x1) bitsLt_bf16_f32)
    broadcasts_S128x1_S128x2304

/-- The lane along a row, read at an index. -/
theorem vrow_at (B : FVec Ideal S128x128 .f32) (i : Fin 128) (k : Fin 2304) : vrow B (ix2 i k) = B (ix2 i (0 : Fin 128)) := by
  have h : ∀ N : FVec Ideal S128x1 .bf16, broadcastTo S128x2304 N broadcasts_S128x1_S128x2304 (ix2 i k) = N (ix2 i (0 : Fin 1)) :=
    fun N => Idealize.ShloMosaic.broadcastTo_apply _ broadcasts_S128x1_S128x2304 (ix2 i k) (ix2 i (0 : Fin 1)) (fun a => by
      match a with
      | ⟨0, _⟩ => rfl
      | ⟨1, _⟩ => rfl)
  have h2 : extractStridedSlice S128x1 ![0, 0] B slices_S128x128_o0_0_S128x1 (ix2 i (0 : Fin 1))
      = B (ix2 i (0 : Fin 128)) :=
    Idealize.ShloMosaic.extractStridedSlice_apply _ _ _ (ix2 i (0 : Fin 1)) (ix2 i (0 : Fin 128)) (fun a => by
      match a with
      | ⟨0, _⟩ => exact (Nat.zero_add _).symm
      | ⟨1, _⟩ => rfl)
  exact (h _).trans h2

/-- Values times factors, clipped to the range of the codes. -/
def vclip (X B : FVec Ideal S128x2304 .bf16) : FVec Ideal S128x2304 .fp8e4m3 :=
  truncf .fp8e4m3 (minimumf (broadcast S128x2304 (Scalar.truncf .bf16 bitsLt_bf16_f32 (Scalar.ofBits .f32 0x43E00000#32)))
    (maximumf (broadcast S128x2304 (Scalar.truncf .bf16 bitsLt_bf16_f32 (Scalar.ofBits .f32 0xC3E00000#32))) (mulf X B))) bitsLt_fp8e4m3_bf16

/-- A clipped product read at an index. -/
theorem vclip_at (X B : FVec Ideal S128x2304 .bf16) (j : S128x2304.Idx) :
    vclip X B j = min (Ideal.ofBits .f32 0x43E00000#32) (max (Ideal.ofBits .f32 0xC3E00000#32) (X j * B j)) := rfl

/-- The chunk's codes are those of its values and exponents. -/
theorem qCodes_eq (v : Vec Ideal S128x2304 .bf16) : qCodes v = vclip (k0_pay4 v) (vrow (vinv (qExp v))) := by
  unfold qCodes k0_pay10 qExp vclip vrow vinv
  with_reducible rfl

/-- The chunk's code at a row and a column. -/
theorem qCodes_apply (v : Vec Ideal S128x2304 .bf16) (i : Fin 128) (k : Fin 2304) :
    qCodes v (ix2 i k) = min (Ideal.ofBits .f32 0x43E00000#32) (max (Ideal.ofBits .f32 0xC3E00000#32)
      (v (ix2 i k) * Quant.kinv (chunkRatio v i))) := by
  refine (congrFun (qCodes_eq v) _).trans ((vclip_at _ _ _).trans ?_)
  rw [vrow_at, vinv_at, chunk_at, qExp_apply]
  rfl

/-- The activations of the product are the codes. -/
theorem qAct_at (C : FVec Ideal S128x2304 .fp8e4m3) (j : S128x2304.Idx) : k0_pay12 (F := Ideal) C j = C j := by
  unfold k0_pay12
  show shapeCast S128x2304 (extf .bf16 C bitsLt_fp8e4m3_bf16) _ _ = _
  rw [shapeCast_id]
  rfl

/-- The chunk's activation at a row and a column. -/
theorem qAct_apply (v : Vec Ideal S128x2304 .bf16) (i : Fin 128) (k : Fin 2304) :
    qAct v (ix2 i k) = min (Ideal.ofBits .f32 0x43E00000#32) (max (Ideal.ofBits .f32 0xC3E00000#32)
      (v (ix2 i k) * Quant.kinv (chunkRatio v i))) :=
  (qAct_at _ _).trans (qCodes_apply v i k)

end Cert.KernelIdeal.Gen

end
-- ==== Proof.Value.Weights.lean ====
/- One group of dequantised weight rows and one column chunk of the product, read element by element on the extended
   reals. -/
module

public import proofs.«01_k».proof.Proof.Blocks
public import Idealize.ShloMosaic.Lib.Pointwise

@[expose] public section

noncomputable section

namespace Cert.KernelIdeal.Gen

open Idealize.ShloMosaic

/-- A dequantised weight of a group: the nibble of the row's parity, less the zero point, times the scale. -/
theorem group_apply (p : Vec Ideal S64x1024 .i8) (z : Vec Ideal S1x1024 .i8) (s : Vec Ideal S1x1024 .f32) (i : Fin 128) (c : Fin 1024) :
    k0_pay98 (F := Ideal) p z s (ix2 i c)
      = (FloatOps.sitofp (F := Ideal) .bf16 (IntOp.andi (IntOp.shrsi .vector (BitVec.setWidth 32 (p (ix2 (⟨i.val / 2, by omega⟩ : Fin 64) c)))
            (BitVec.ofNat 32 (i.val % 2) * 4#32)) 15#32)
          - FloatOps.uitofp (F := Ideal) .f32 (z (ix2 (0 : Fin 1) c))) * s (ix2 (0 : Fin 1) c) := by
  pointwise [k0_pay98]
  rfl

/-- The accumulator at a row and a column. -/
theorem acc_apply (a : Vec Ideal S1024x2304 .bf16) (w : Vec Ideal S2304x1024 .bf16) (r c : Fin 1024) :
    k0_pay130 (F := Ideal) a w (ix2 r c) = ∑ k : Fin 2304, a (ix2 r k) * w (ix2 k c) := by
  pointwise [k0_pay130]

/-- A column chunk of the product at a row and a lane. -/
theorem col_apply (q : Fin 8) (acc : FVec Ideal S1024x1024 .f32) (xs : Vec Ideal S1024x128 .f32) (v : Vec Ideal S1x128 .f32)
    (r : Fin 1024) (l : Fin 128) :
    col q acc xs v (ix2 r l)
      = acc (ix2 r (⟨128 * q.val + l.val, by omega⟩ : Fin 1024)) * xs (ix2 r l) * v (ix2 (0 : Fin 1) l) := by
  have h : ∀ N : FVec Ideal S1x128 .f32, broadcastTo S1024x128 N broadcasts_S1x128_S1024x128 (ix2 r l) = N (ix2 (0 : Fin 1) l) :=
    fun N => Idealize.ShloMosaic.broadcastTo_apply _ broadcasts_S1x128_S1024x128 (ix2 r l) (ix2 (0 : Fin 1) l) (fun a => by
      match a with
      | ⟨0, _⟩ => rfl
      | ⟨1, _⟩ => rfl)
  have h2 : extractStridedSlice S1024x128 ![0, 128 * q.val] acc (slices_colsY q) (ix2 r l)
      = acc (ix2 r (⟨128 * q.val + l.val, by omega⟩ : Fin 1024)) :=
    Idealize.ShloMosaic.extractStridedSlice_apply _ _ _ (ix2 r l) _ (fun a => by
      match a with
      | ⟨0, _⟩ => exact (Nat.zero_add _).symm
      | ⟨1, _⟩ => rfl)
  unfold col
  rw [shapeCast_id, ← h2, ← h v]
  rfl

end Cert.KernelIdeal.Gen

end
-- ==== Proof.Value.Rows.lean ====
/- One row of the quantiser and one entry of the product, as the kernel and as the reference compute them, and that the
   two agree: on rows of finite values the codes and scales are the same, and the sum over all positions is the sum over
   the even ones plus the sum over the odd ones. -/
module

public import proofs.«01_k».proof.Proof.Exponent

@[expose] public section

noncomputable section

namespace Cert.Quant

open Idealize.ShloMosaic

/-- A row's largest magnitude over 448. -/
def rowRatio (f : Fin 2304 → EReal) : EReal :=
  (Finset.univ : Finset (Fin 2304)).fold max (Ideal.ofBits .f32 0xFF800000#32) (fun k => max (f k) (-(f k)))
    * Ideal.ofBits .f32 0x3B124925#32

/-- A value times an inverse scale, clipped to the range of the codes. -/
def clip (x q : EReal) : EReal :=
  min (Ideal.ofBits .f32 0x43E00000#32) (max (Ideal.ofBits .f32 0xC3E00000#32) (x * q))

/-- The largest finite bfloat16 number. -/
theorem ofBits_top : Ideal.ofBits .bf16 0x7F7F#16 = (((255 : ℝ) * 2 ^ (120 : ℤ) : ℝ) : EReal) := by
  show Ideal.ieee 8 7 0x7F7F#16 = _
  unfold Ideal.ieee
  rw [show ((0x7F7F#16 : BitVec 16).extractLsb' 7 8).toNat = 254 by decide,
    show ((0x7F7F#16 : BitVec 16).extractLsb' 0 7).toNat = 127 by decide,
    show ((0x7F7F#16 : BitVec 16).extractLsb' (8 + 7) 1 == 1#1) = false by decide]
  norm_num

/-- The factor 1/448 as a single-precision number. -/
theorem ofBits_inv448 : Ideal.ofBits .f32 0x3B124925#32 = (((9586981 : ℝ) * 2 ^ (-32 : ℤ) : ℝ) : EReal) := by
  show Ideal.ieee 8 23 0x3B124925#32 = _
  unfold Ideal.ieee
  rw [show ((0x3B124925#32 : BitVec 32).extractLsb' 23 8).toNat = 118 by decide,
    show ((0x3B124925#32 : BitVec 32).extractLsb' 0 23).toNat = 1198373 by decide,
    show ((0x3B124925#32 : BitVec 32).extractLsb' (8 + 23) 1 == 1#1) = false by decide]
  norm_num

/-- The word the reduction starts from denotes the least extended real. -/
theorem ofBits_bot : Ideal.ofBits .f32 0xFF800000#32 = ⊥ := by
  show Ideal.ieee 8 23 0xFF800000#32 = ⊥
  unfold Ideal.ieee
  rw [show ((0xFF800000#32 : BitVec 32).extractLsb' 23 8).toNat = 255 by decide,
    show ((0xFF800000#32 : BitVec 32).extractLsb' 0 23).toNat = 0 by decide,
    show ((0xFF800000#32 : BitVec 32).extractLsb' (8 + 23) 1 == 1#1) = true by decide]
  norm_num

/-- A row of finite bfloat16 values has a ratio that is a real number below `2 ^ 120`. -/
theorem rowRatio_real (f : Fin 2304 → EReal) (hf : ∀ k, max (f k) (-(f k)) ≤ Ideal.ofBits .bf16 0x7F7F#16) :
    ∃ v : ℝ, rowRatio f = (v : EReal) ∧ v < (2 : ℝ) ^ (120 : ℤ) := by
  unfold rowRatio
  generalize hM : (Finset.univ : Finset (Fin 2304)).fold max (Ideal.ofBits .f32 0xFF800000#32) (fun k => max (f k) (-(f k))) = M
  have h1 : M ≤ (((255 : ℝ) * 2 ^ (120 : ℤ) : ℝ) : EReal) := by
    rw [← hM, ← ofBits_top, Finset.fold_max_le]
    exact ⟨by rw [ofBits_bot]; exact bot_le, fun k _ => hf k⟩
  have h0 : (0 : EReal) ≤ M := by
    rw [← hM, Finset.le_fold_max]
    refine Or.inr ⟨⟨0, by omega⟩, Finset.mem_univ _, ?_⟩
    rcases le_total (0 : EReal) (f ⟨0, by omega⟩) with h | h
    · exact le_max_of_le_left h
    · exact le_max_of_le_right (by rw [EReal.le_neg]; simpa using h)
  have hb : M ≠ ⊥ := fun h => by rw [h] at h0; exact absurd h0 (by simp)
  have ht : M ≠ ⊤ := fun h => by rw [h] at h1; exact absurd h1 (not_le.mpr (EReal.coe_lt_top _))
  lift M to ℝ using ⟨ht, hb⟩ with x
  rw [EReal.coe_le_coe_iff] at h1
  have h0' : (0 : ℝ) ≤ x := by exact_mod_cast h0
  refine ⟨x * ((9586981 : ℝ) * 2 ^ (-32 : ℤ)), by rw [ofBits_inv448, ← EReal.coe_mul], ?_⟩
  have h2 : x * ((9586981 : ℝ) * 2 ^ (-32 : ℤ)) ≤ ((255 : ℝ) * 2 ^ (120 : ℤ)) * ((9586981 : ℝ) * 2 ^ (-32 : ℤ)) :=
    mul_le_mul_of_nonneg_right h1 (by positivity)
  refine lt_of_le_of_lt h2 ?_
  norm_num

/-- On a row of finite values the kernel's and the reference's scales agree, and so do the inverse scales. -/
theorem row_agree (f : Fin 2304 → EReal) (hf : ∀ k, max (f k) (-(f k)) ≤ Ideal.ofBits .bf16 0x7F7F#16) :
    kscale (rowRatio f) = rscale (rowRatio f) ∧ kinv (rowRatio f) = rinv (rowRatio f) := by
  obtain ⟨v, hv, hlt⟩ := rowRatio_real f hf
  rw [hv]
  exact scale_inv_eq v hlt

/-! ## The product -/

/-- The kernel's dequantised weight at position `k` of a column: the nibble of the position's parity less the group's zero
    point, times the group's scale. -/
def kweight (w : Fin 1152 → BitVec 8) (z : Fin 18 → BitVec 8) (s : Fin 18 → EReal) (k : Fin 2304) : EReal :=
  (FloatOps.sitofp (F := Ideal) .bf16 (IntOp.andi (IntOp.shrsi .vector (BitVec.setWidth 32 (w ⟨k.val / 2, by omega⟩))
        (BitVec.ofNat 32 (k.val % 2) * 4#32)) 15#32)
      - FloatOps.uitofp (F := Ideal) .f32 (z ⟨k.val / 128, by omega⟩)) * s ⟨k.val / 128, by omega⟩

/-- The reference's weight at the even position of byte `j`. -/
def rlow (w : Fin 1152 → BitVec 8) (z : Fin 18 → BitVec 8) (s : Fin 18 → EReal) (j : Fin 1152) : EReal :=
  (FloatOps.sitofp (F := Ideal) .bf16 (IntOp.andi (BitVec.setWidth 32 (w j)) 15#32)
      - FloatOps.uitofp (F := Ideal) .f32 (z ⟨j.val / 64, by omega⟩)) * s ⟨j.val / 64, by omega⟩

/-- The reference's weight at the odd position of byte `j`. -/
def rhigh (w : Fin 1152 → BitVec 8) (z : Fin 18 → BitVec 8) (s : Fin 18 → EReal) (j : Fin 1152) : EReal :=
  (FloatOps.sitofp (F := Ideal) .bf16 (IntOp.shrsi .vector (BitVec.setWidth 32 (w j)) 4#32)
      - FloatOps.uitofp (F := Ideal) .f32 (z ⟨j.val / 64, by omega⟩)) * s ⟨j.val / 64, by omega⟩

/-- The two nibbles of a byte, by shift and mask and as the reference takes them. -/
theorem nibbles_fin : ∀ u : Fin 256,
    IntOp.andi (IntOp.shrsi .vector (BitVec.setWidth 32 (BitVec.ofFin u : BitVec 8)) (BitVec.ofNat 32 0 * 4#32)) 15#32
        = IntOp.andi (BitVec.setWidth 32 (BitVec.ofFin u : BitVec 8)) 15#32
      ∧ IntOp.andi (IntOp.shrsi .vector (BitVec.setWidth 32 (BitVec.ofFin u : BitVec 8)) (BitVec.ofNat 32 1 * 4#32)) 15#32
        = IntOp.shrsi .vector (BitVec.setWidth 32 (BitVec.ofFin u : BitVec 8)) 4#32 := by decide +kernel

/-- At an even position the kernel's weight is the reference's from the low nibble. -/
theorem kweight_even (w : Fin 1152 → BitVec 8) (z : Fin 18 → BitVec 8) (s : Fin 18 → EReal) (j : Fin 1152) :
    kweight w z s ⟨j.val * 2, by omega⟩ = rlow w z s j := by
  unfold kweight rlow
  have e1 : (⟨j.val * 2 / 2, by omega⟩ : Fin 1152) = j := Fin.ext (by show j.val * 2 / 2 = j.val; omega)
  have e2 : (⟨j.val * 2 / 128, by omega⟩ : Fin 18) = ⟨j.val / 64, by omega⟩ := Fin.ext (by show j.val * 2 / 128 = j.val / 64; omega)
  have e3 : j.val * 2 % 2 = 0 := by omega
  simp only [e1, e2, e3]
  rw [(nibbles_fin (w j).toFin).1]

/-- At an odd position it is the reference's from the high nibble. -/
theorem kweight_odd (w : Fin 1152 → BitVec 8) (z : Fin 18 → BitVec 8) (s : Fin 18 → EReal) (j : Fin 1152) :
    kweight w z s ⟨j.val * 2 + 1, by omega⟩ = rhigh w z s j := by
  unfold kweight rhigh
  have e1 : (⟨(j.val * 2 + 1) / 2, by omega⟩ : Fin 1152) = j := Fin.ext (by show (j.val * 2 + 1) / 2 = j.val; omega)
  have e2 : (⟨(j.val * 2 + 1) / 128, by omega⟩ : Fin 18) = ⟨j.val / 64, by omega⟩ :=
    Fin.ext (by show (j.val * 2 + 1) / 128 = j.val / 64; omega)
  have e3 : (j.val * 2 + 1) % 2 = 1 := by omega
  simp only [e1, e2, e3]
  rw [(nibbles_fin (w j).toFin).2]

/-- A sum over an even number of positions is the sum over the even ones plus the sum over the odd ones. -/
theorem sum_pairs_of (n : Nat) (g : Fin (n * 2) → EReal) :
    ∑ k : Fin (n * 2), g k = (∑ j : Fin n, g ⟨j.val * 2, by omega⟩) + ∑ j : Fin n, g ⟨j.val * 2 + 1, by omega⟩ := by
  have h := Fintype.sum_equiv (finProdFinEquiv (m := n) (n := 2))
    (fun p => g (finProdFinEquiv (m := n) (n := 2) p)) (fun k : Fin (n * 2) => g k) (fun _ => rfl)
  rw [← h, Fintype.sum_prod_type, ← Finset.sum_add_distrib]
  refine Finset.sum_congr rfl fun j _ => ?_
  rw [Fin.sum_univ_two]
  congr 1
  · exact congrArg g (Fin.ext (by show 0 + 2 * j.val = j.val * 2; omega))
  · exact congrArg g (Fin.ext (by show 1 + 2 * j.val = j.val * 2 + 1; omega))

/-- A sum over 2304 positions is the sum over the even ones plus the sum over the odd ones. -/
theorem sum_pairs (g : Fin 2304 → EReal) :
    ∑ k : Fin 2304, g k = (∑ j : Fin 1152, g ⟨j.val * 2, by omega⟩) + ∑ j : Fin 1152, g ⟨j.val * 2 + 1, by omega⟩ :=
  sum_pairs_of 1152 g

/-- The kernel's sum over all positions is the reference's two sums. -/
theorem product_agree (a : Fin 2304 → EReal) (w : Fin 1152 → BitVec 8) (z : Fin 18 → BitVec 8) (s : Fin 18 → EReal) :
    ∑ k : Fin 2304, a k * kweight w z s k
      = (∑ j : Fin 1152, a ⟨j.val * 2, by omega⟩ * rlow w z s j) + ∑ j : Fin 1152, a ⟨j.val * 2 + 1, by omega⟩ * rhigh w z s j := by
  rw [sum_pairs]
  simp only [kweight_even, kweight_odd]

end Cert.Quant

end
-- ==== Proof.Value.Buffers.lean ====
/- The buffers the chunks, groups and column chunks tile, read element by element on the extended reals. -/
module

public import proofs.«01_k».proof.Proof.Value.Chunk
public import proofs.«01_k».proof.Proof.Value.Weights
public import proofs.«01_k».proof.Proof.Value.Rows
public import Idealize.ShloMosaic.Lib.Pipeline.ValueKit

@[expose] public section

noncomputable section

namespace Cert.KernelIdeal.Gen

open Idealize.ShloMosaic

/-! ## Lists of tiles -/

/-- What every tile satisfies, every member of the list of eight tiles satisfies. -/
theorem all8 {α : Type*} (f : Fin 8 → α) (P : α → Prop) (h : ∀ q, P (f q)) :
    ∀ p ∈ [f 7, f 6, f 5, f 4, f 3, f 2, f 1, f 0], P p := by
  intro p hp
  simp only [List.mem_cons, List.mem_nil_iff, or_false] at hp
  rcases hp with rfl | rfl | rfl | rfl | rfl | rfl | rfl | rfl <;> exact h _

/-- Each of the eight tiles is in the list. -/
theorem mem8 {α : Type*} (f : Fin 8 → α) (q : Fin 8) : f q ∈ [f 7, f 6, f 5, f 4, f 3, f 2, f 1, f 0] := by
  fin_cases q <;> simp

/-- What every tile satisfies, every member of the list of eighteen tiles satisfies. -/
theorem all18 {α : Type*} (f : Fin 18 → α) (P : α → Prop) (h : ∀ q, P (f q)) :
    ∀ p ∈ [f 17, f 16, f 15, f 14, f 13, f 12, f 11, f 10, f 9, f 8, f 7, f 6, f 5, f 4, f 3, f 2, f 1, f 0], P p := by
  intro p hp
  simp only [List.mem_cons, List.mem_nil_iff, or_false] at hp
  rcases hp with rfl | rfl | rfl | rfl | rfl | rfl | rfl | rfl | rfl | rfl | rfl | rfl | rfl | rfl | rfl | rfl | rfl | rfl <;> exact h _

/-- Each of the eighteen tiles is in the list. -/
theorem mem18 {α : Type*} (f : Fin 18 → α) (q : Fin 18) :
    f q ∈ [f 17, f 16, f 15, f 14, f 13, f 12, f 11, f 10, f 9, f 8, f 7, f 6, f 5, f 4, f 3, f 2, f 1, f 0] := by
  fin_cases q <;> simp

/-! ## The quantiser's buffers -/

/-- A row of the activations. -/
def row (x : Vec Ideal S1024x2304 .bf16) (r : Fin 1024) : Fin 2304 → EReal := fun k => x (ix2 r k)

/-- Row `128 q + i`. -/
def rowOf (q : Fin 8) (i : Fin 128) : Fin 1024 := ⟨128 * q.val + i.val, by omega⟩

/-- Rows `128 q … 128 q + 127` of the activations. -/
def chunk (x : Vec Ideal S1024x2304 .bf16) (q : Fin 8) : Vec Ideal S128x2304 .bf16 := View.ld x (rowsX q)

/-- Chunk `q` read at a row and a column. -/
theorem chunk_ld (x : Vec Ideal S1024x2304 .bf16) (q : Fin 8) (i : Fin 128) (k : Fin 2304) :
    chunk x q (ix2 i k) = x (ix2 (rowOf q i) k) :=
  View.ld_unit_apply_of x _ _ _ (ix2 i k) (ix2 (rowOf q i) k) (fun a => by
    match a with
    | ⟨0, _⟩ => rfl
    | ⟨1, _⟩ => exact (Nat.zero_add _).symm)

/-- A chunk row's ratio is the whole row's. -/
theorem chunkRatio_ld (x : Vec Ideal S1024x2304 .bf16) (q : Fin 8) (i : Fin 128) :
    chunkRatio (chunk x q) i = Quant.rowRatio (row x (rowOf q i)) := by
  unfold chunkRatio Quant.rowRatio row
  simp only [chunk_ld]

/-- Every row is in a chunk. -/
theorem row_bounds (r : Nat) : 128 * (r / 128) ≤ r ∧ r < 128 * (r / 128) + 128 := by omega

/-- Which indices a tile holds. -/
theorem rowsX_mem (q : Fin 8) (y : S1024x2304.Idx) (h : 128 * q.val ≤ (y 0).val ∧ (y 0).val < 128 * q.val + 128) : y ∈ (rowsX q).set := by
  unfold rowsX
  rw [Rect.mem_set_unit]
  intro a
  match a with
  | ⟨0, _⟩ => exact h
  | ⟨1, _⟩ => exact ⟨Nat.zero_le _, by show (y 1).val < 0 + 2304; have h1 : (y 1).val < 2304 := (y 1).isLt; omega⟩

/-- Where a chunk's element at a row and a column lies in its buffer. -/
theorem rowsX_emb (q : Fin 8) (i : Fin 128) (k : Fin 2304) : ((rowsX q).emb (ix2 i k) : S1024x2304.Idx) = ix2 (rowOf q i) k := by
  funext a
  refine Fin.ext ((Idealize.ShloMosaic.ValueKit.rect_emb_unit_val _ _ _ _ a).trans ?_)
  match a with
  | ⟨0, _⟩ => rfl
  | ⟨1, _⟩ => exact Nat.zero_add _

/-- Which indices a tile holds. -/
theorem rowsS_mem (q : Fin 8) (y : S1024x128.Idx) (h : 128 * q.val ≤ (y 0).val ∧ (y 0).val < 128 * q.val + 128) : y ∈ (rowsS q).set := by
  unfold rowsS
  rw [Rect.mem_set_unit]
  intro a
  match a with
  | ⟨0, _⟩ => exact h
  | ⟨1, _⟩ => exact ⟨Nat.zero_le _, by show (y 1).val < 0 + 128; have h1 : (y 1).val < 128 := (y 1).isLt; omega⟩

/-- Where a chunk's element at a row and a column lies in its buffer. -/
theorem rowsS_emb (q : Fin 8) (i : Fin 128) (k : Fin 128) : ((rowsS q).emb (ix2 i k) : S1024x128.Idx) = ix2 (rowOf q i) k := by
  funext a
  refine Fin.ext ((Idealize.ShloMosaic.ValueKit.rect_emb_unit_val _ _ _ _ a).trans ?_)
  match a with
  | ⟨0, _⟩ => rfl
  | ⟨1, _⟩ => exact Nat.zero_add _

/-- Which indices a tile holds. -/
theorem rowsC_mem (q : Fin 8) (y : S1024x1.Idx) (h : 128 * q.val ≤ (y 0).val ∧ (y 0).val < 128 * q.val + 128) : y ∈ (rowsC q).set := by
  unfold rowsC
  rw [Rect.mem_set_unit]
  intro a
  match a with
  | ⟨0, _⟩ => exact h
  | ⟨1, _⟩ => exact ⟨Nat.zero_le _, by show (y 1).val < 0 + 1; have h1 : (y 1).val < 1 := (y 1).isLt; omega⟩

/-- Where a chunk's element at a row and a column lies in its buffer. -/
theorem rowsC_emb (q : Fin 8) (i : Fin 128) (k : Fin 1) : ((rowsC q).emb (ix2 i k) : S1024x1.Idx) = ix2 (rowOf q i) k := by
  funext a
  refine Fin.ext ((Idealize.ShloMosaic.ValueKit.rect_emb_unit_val _ _ _ _ a).trans ?_)
  match a with
  | ⟨0, _⟩ => rfl
  | ⟨1, _⟩ => exact Nat.zero_add _

/-- The codes of every row, as a function of the index. -/
def kcodes (x : Vec Ideal S1024x2304 .bf16) (y : S1024x2304.Idx) : EReal := Quant.clip (row x (y 0) (y 1)) (Quant.kinv (Quant.rowRatio (row x (y 0))))

/-- The codes, at an index of the whole buffer. -/
theorem codesOf_eq (x : Vec Ideal S1024x2304 .bf16) (y : S1024x2304.Idx) : codesOf x y = kcodes x y := by
  have h : ∀ (q : Fin 8) (i : Fin 128) (k : Fin 2304), qCodes (chunk x q) (ix2 i k) = kcodes x (ix2 (rowOf q i) k) := fun q i k => by
    rw [qCodes_apply, chunkRatio_ld, chunk_ld]
    rfl
  refine View.canon_apply_of_pieces (kcodes x) _ (all8 (pCodes x) _ fun q j =>
      (congrArg (qCodes (chunk x q)) (eq_ix2 j)).trans ((h q (j 0) (j 1)).trans
        (congrArg (kcodes x) ((rowsX_emb q (j 0) (j 1)).symm.trans (congrArg (rowsX q).emb (eq_ix2 j).symm))))) y
    ⟨pCodes x ⟨(y 0).val / 128, by have h0 : (y 0).val < 1024 := (y 0).isLt; omega⟩, mem8 (pCodes x) _, ?_⟩
  exact rowsX_mem _ y (row_bounds (y 0).val)

/-- The activations of the product of every row, as a function of the index. -/
def kacts (x : Vec Ideal S1024x2304 .bf16) (y : S1024x2304.Idx) : EReal := Quant.clip (row x (y 0) (y 1)) (Quant.kinv (Quant.rowRatio (row x (y 0))))

/-- The activations of the product, at an index of the whole buffer. -/
theorem actOf_eq (x : Vec Ideal S1024x2304 .bf16) (y : S1024x2304.Idx) : actOf x y = kacts x y := by
  have h : ∀ (q : Fin 8) (i : Fin 128) (k : Fin 2304), qAct (chunk x q) (ix2 i k) = kacts x (ix2 (rowOf q i) k) := fun q i k => by
    rw [qAct_apply, chunkRatio_ld, chunk_ld]
    rfl
  refine View.canon_apply_of_pieces (kacts x) _ (all8 (pAct x) _ fun q j =>
      (congrArg (qAct (chunk x q)) (eq_ix2 j)).trans ((h q (j 0) (j 1)).trans
        (congrArg (kacts x) ((rowsX_emb q (j 0) (j 1)).symm.trans (congrArg (rowsX q).emb (eq_ix2 j).symm))))) y
    ⟨pAct x ⟨(y 0).val / 128, by have h0 : (y 0).val < 1024 := (y 0).isLt; omega⟩, mem8 (pAct x) _, ?_⟩
  exact rowsX_mem _ y (row_bounds (y 0).val)

/-- The scales on 128 lanes of every row, as a function of the index. -/
def klanes (x : Vec Ideal S1024x2304 .bf16) (y : S1024x128.Idx) : EReal := Quant.kscale (Quant.rowRatio (row x (y 0)))

/-- The scales on 128 lanes, at an index of the whole buffer. -/
theorem lanesOf_eq (x : Vec Ideal S1024x2304 .bf16) (y : S1024x128.Idx) : lanesOf x y = klanes x y := by
  have h : ∀ (q : Fin 8) (i : Fin 128) (k : Fin 128), qLanes (chunk x q) (ix2 i k) = klanes x (ix2 (rowOf q i) k) := fun q i k => by
    rw [qLanes_apply, chunkRatio_ld]
    rfl
  refine View.canon_apply_of_pieces (klanes x) _ (all8 (pLanes x) _ fun q j =>
      (congrArg (qLanes (chunk x q)) (eq_ix2 j)).trans ((h q (j 0) (j 1)).trans
        (congrArg (klanes x) ((rowsS_emb q (j 0) (j 1)).symm.trans (congrArg (rowsS q).emb (eq_ix2 j).symm))))) y
    ⟨pLanes x ⟨(y 0).val / 128, by have h0 : (y 0).val < 1024 := (y 0).isLt; omega⟩, mem8 (pLanes x) _, ?_⟩
  exact rowsS_mem _ y (row_bounds (y 0).val)

/-- The scales of every row, as a function of the index. -/
def kscales (x : Vec Ideal S1024x2304 .bf16) (y : S1024x1.Idx) : EReal := Quant.kscale (Quant.rowRatio (row x (y 0)))

/-- The scales, at an index of the whole buffer. -/
theorem scaleOf_eq (x : Vec Ideal S1024x2304 .bf16) (y : S1024x1.Idx) : scaleOf x y = kscales x y := by
  have h : ∀ (q : Fin 8) (i : Fin 128) (k : Fin 1), qScale (chunk x q) (ix2 i k) = kscales x (ix2 (rowOf q i) k) := fun q i k => by
    match k with
    | ⟨0, _⟩ =>
      refine (qScale_apply _ i).trans ?_
      rw [chunkRatio_ld]
      rfl
  refine View.canon_apply_of_pieces (kscales x) _ (all8 (pScale x) _ fun q j =>
      (congrArg (qScale (chunk x q)) (eq_ix2 j)).trans ((h q (j 0) (j 1)).trans
        (congrArg (kscales x) ((rowsC_emb q (j 0) (j 1)).symm.trans (congrArg (rowsC q).emb (eq_ix2 j).symm))))) y
    ⟨pScale x ⟨(y 0).val / 128, by have h0 : (y 0).val < 1024 := (y 0).isLt; omega⟩, mem8 (pScale x) _, ?_⟩
  exact rowsC_mem _ y (row_bounds (y 0).val)

/-! ## The weights -/

/-- Row `128 g + i` of the weights. -/
def wrow (g : Fin 18) (i : Fin 128) : Fin 2304 := ⟨128 * g.val + i.val, by omega⟩

/-- The packed rows, the zero points and the scales of group `g`. -/
def groupP (p : Vec Ideal S1152x1024 .i8) (g : Fin 18) : Vec Ideal S64x1024 .i8 := View.ld p (rowsP g)
def groupZ (z : Vec Ideal S18x1024 .i8) (g : Fin 18) : Vec Ideal S1x1024 .i8 := View.ld z (rowsZ g)
def groupS (s : Vec Ideal S18x1024 .f32) (g : Fin 18) : Vec Ideal S1x1024 .f32 := View.ld s (rowsZ g)

theorem groupP_ld (p : Vec Ideal S1152x1024 .i8) (g : Fin 18) (i : Fin 64) (c : Fin 1024) :
    groupP p g (ix2 i c) = p (ix2 (⟨64 * g.val + i.val, by omega⟩ : Fin 1152) c) :=
  View.ld_unit_apply_of p _ _ _ (ix2 i c) (ix2 (⟨64 * g.val + i.val, by omega⟩ : Fin 1152) c) (fun a => by
    match a with
    | ⟨0, _⟩ => rfl
    | ⟨1, _⟩ => exact (Nat.zero_add _).symm)
theorem groupZ_ld (z : Vec Ideal S18x1024 .i8) (g : Fin 18) (c : Fin 1024) : groupZ z g (ix2 (0 : Fin 1) c) = z (ix2 g c) :=
  View.ld_unit_apply_of z _ _ _ (ix2 (0 : Fin 1) c) (ix2 g c) (fun a => by
    match a with
    | ⟨0, _⟩ => rfl
    | ⟨1, _⟩ => exact (Nat.zero_add _).symm)
theorem groupS_ld (s : Vec Ideal S18x1024 .f32) (g : Fin 18) (c : Fin 1024) : groupS s g (ix2 (0 : Fin 1) c) = s (ix2 g c) :=
  View.ld_unit_apply_of s _ _ _ (ix2 (0 : Fin 1) c) (ix2 g c) (fun a => by
    match a with
    | ⟨0, _⟩ => rfl
    | ⟨1, _⟩ => exact (Nat.zero_add _).symm)

/-- Which indices a tile holds. -/
theorem rowsW_mem (q : Fin 18) (y : S2304x1024.Idx) (h : 128 * q.val ≤ (y 0).val ∧ (y 0).val < 128 * q.val + 128) : y ∈ (rowsW q).set := by
  unfold rowsW
  rw [Rect.mem_set_unit]
  intro a
  match a with
  | ⟨0, _⟩ => exact h
  | ⟨1, _⟩ => exact ⟨Nat.zero_le _, by show (y 1).val < 0 + 1024; have h1 : (y 1).val < 1024 := (y 1).isLt; omega⟩

/-- Where a group's element at a row and a column lies in the weights' buffer. -/
theorem rowsW_emb (g : Fin 18) (i : Fin 128) (c : Fin 1024) : ((rowsW g).emb (ix2 i c) : S2304x1024.Idx) = ix2 (wrow g i) c := by
  funext a
  refine Fin.ext ((Idealize.ShloMosaic.ValueKit.rect_emb_unit_val _ _ _ _ a).trans ?_)
  match a with
  | ⟨0, _⟩ => rfl
  | ⟨1, _⟩ => exact Nat.zero_add _

/-- The dequantised weights of a tile, as a function of the index. -/
def kweights (p : Vec Ideal S1152x1024 .i8) (z : Vec Ideal S18x1024 .i8) (s : Vec Ideal S18x1024 .f32) (y : S2304x1024.Idx) : EReal :=
  Quant.kweight (fun j => p (ix2 j (y 1))) (fun g => z (ix2 g (y 1))) (fun g => s (ix2 g (y 1))) (y 0)

/-- A group's weight at a row and a column is the tile's. -/
theorem group_eq (p : Vec Ideal S1152x1024 .i8) (z : Vec Ideal S18x1024 .i8) (s : Vec Ideal S18x1024 .f32)
    (g : Fin 18) (i : Fin 128) (c : Fin 1024) :
    k0_pay98 (F := Ideal) (groupP p g) (groupZ z g) (groupS s g) (ix2 i c) = kweights p z s (ix2 (wrow g i) c) := by
  refine (group_apply _ _ _ i c).trans ?_
  rw [groupP_ld, groupZ_ld, groupS_ld]
  show _ = Quant.kweight (fun j => p (ix2 j c)) (fun g => z (ix2 g c)) (fun g => s (ix2 g c)) (wrow g i)
  unfold Quant.kweight
  have e1 : (⟨64 * g.val + i.val / 2, by omega⟩ : Fin 1152) = ⟨(wrow g i).val / 2, by have := (wrow g i).isLt; omega⟩ :=
    Fin.ext (by show 64 * g.val + i.val / 2 = (128 * g.val + i.val) / 2; omega)
  have e2 : g = ⟨(wrow g i).val / 128, by have := (wrow g i).isLt; omega⟩ :=
    Fin.ext (by show g.val = (128 * g.val + i.val) / 128; omega)
  have e3 : (wrow g i).val % 2 = i.val % 2 := by show (128 * g.val + i.val) % 2 = i.val % 2; omega
  rw [e3]
  simp only [e1, ← e2]

/-- The dequantised weights, at an index of the whole buffer. -/
theorem wOf_eq (p : Vec Ideal S1152x1024 .i8) (z : Vec Ideal S18x1024 .i8) (s : Vec Ideal S18x1024 .f32) (y : S2304x1024.Idx) :
    wOf p z s y = kweights p z s y := by
  refine View.canon_apply_of_pieces (kweights p z s) _ (all18 (pW p z s) _ fun g j =>
      (congrArg (k0_pay98 (F := Ideal) (groupP p g) (groupZ z g) (groupS s g)) (eq_ix2 j)).trans ((group_eq p z s g (j 0) (j 1)).trans
        (congrArg (kweights p z s) ((rowsW_emb g (j 0) (j 1)).symm.trans (congrArg (rowsW g).emb (eq_ix2 j).symm))))) y
    ⟨pW p z s ⟨(y 0).val / 128, by have h0 : (y 0).val < 2304 := (y 0).isLt; omega⟩, mem18 (pW p z s) _, ?_⟩
  exact rowsW_mem _ y (row_bounds (y 0).val)

/-! ## The product -/

/-- Column `128 q + l` of a tile. -/
def colOf (q : Fin 8) (l : Fin 128) : Fin 1024 := ⟨128 * q.val + l.val, by omega⟩

/-- Which indices a tile holds. -/
theorem colsY_mem (q : Fin 8) (y : S1024x1024.Idx) (h : 128 * q.val ≤ (y 1).val ∧ (y 1).val < 128 * q.val + 128) : y ∈ (colsY q).set := by
  unfold colsY
  rw [Rect.mem_set_unit]
  intro a
  match a with
  | ⟨0, _⟩ => exact ⟨Nat.zero_le _, by show (y 0).val < 0 + 1024; have h1 : (y 0).val < 1024 := (y 0).isLt; omega⟩
  | ⟨1, _⟩ => exact h

/-- Where a column chunk's element lies in the output tile. -/
theorem colsY_emb (q : Fin 8) (r : Fin 1024) (l : Fin 128) : ((colsY q).emb (ix2 r l) : S1024x1024.Idx) = ix2 r (colOf q l) := by
  funext a
  refine Fin.ext ((Idealize.ShloMosaic.ValueKit.rect_emb_unit_val _ _ _ _ a).trans ?_)
  match a with
  | ⟨0, _⟩ => exact Nat.zero_add _
  | ⟨1, _⟩ => rfl

/-- A column chunk of the channel scales. -/
def chanV (v : Vec Ideal S1x1024 .f32) (q : Fin 8) : Vec Ideal S1x128 .f32 := View.ld v (colsV q)
theorem chanV_ld (v : Vec Ideal S1x1024 .f32) (q : Fin 8) (l : Fin 128) : chanV v q (ix2 (0 : Fin 1) l) = v (ix2 (0 : Fin 1) (colOf q l)) :=
  View.ld_unit_apply_of v _ _ _ (ix2 (0 : Fin 1) l) (ix2 (0 : Fin 1) (colOf q l)) (fun a => by
    match a with
    | ⟨0, _⟩ => rfl
    | ⟨1, _⟩ => rfl)

/-- The output tile: the sum over all positions, times the row's scale, times the channel's. -/
def ktile (x : Vec Ideal S1024x2304 .bf16) (p : Vec Ideal S1152x1024 .i8) (z : Vec Ideal S18x1024 .i8) (s : Vec Ideal S18x1024 .f32)
    (v : Vec Ideal S1x1024 .f32) (y : S1024x1024.Idx) : EReal :=
  (∑ k : Fin 2304, kacts x (ix2 (y 0) k) * kweights p z s (ix2 k (y 1))) * Quant.kscale (Quant.rowRatio (row x (y 0)))
    * v (ix2 (0 : Fin 1) (y 1))

/-- A column chunk's element is the tile's. -/
theorem col_eq (x : Vec Ideal S1024x2304 .bf16) (p : Vec Ideal S1152x1024 .i8) (z : Vec Ideal S18x1024 .i8) (s : Vec Ideal S18x1024 .f32)
    (v : Vec Ideal S1x1024 .f32) (q : Fin 8) (r : Fin 1024) (l : Fin 128) :
    col q (k0_pay130 (F := Ideal) (actOf x) (wOf p z s)) (lanesOf x) (chanV v q) (ix2 r l) = ktile x p z s v (ix2 r (colOf q l)) := by
  refine (col_apply q _ _ _ r l).trans ?_
  rw [acc_apply, chanV_ld, lanesOf_eq]
  simp only [actOf_eq, wOf_eq]
  rfl

/-- The output tile, at an index. -/
theorem yOf_eq (x : Vec Ideal S1024x2304 .bf16) (p : Vec Ideal S1152x1024 .i8) (z : Vec Ideal S18x1024 .i8) (s : Vec Ideal S18x1024 .f32)
    (v : Vec Ideal S1x1024 .f32) (y : S1024x1024.Idx) : yOf (actOf x) (lanesOf x) p z s v y = ktile x p z s v y := by
  refine View.canon_apply_of_pieces (ktile x p z s v) _ (all8 (pY (k0_pay130 (F := Ideal) (actOf x) (wOf p z s)) (lanesOf x) v) _ fun q j =>
      (congrArg (col q (k0_pay130 (F := Ideal) (actOf x) (wOf p z s)) (lanesOf x) (chanV v q)) (eq_ix2 j)).trans
        ((col_eq x p z s v q (j 0) (j 1)).trans
        (congrArg (ktile x p z s v) ((colsY_emb q (j 0) (j 1)).symm.trans (congrArg (colsY q).emb (eq_ix2 j).symm))))) y
    ⟨pY (k0_pay130 (F := Ideal) (actOf x) (wOf p z s)) (lanesOf x) v ⟨(y 1).val / 128, by have h0 : (y 1).val < 1024 := (y 1).isLt; omega⟩,
      mem8 (pY (k0_pay130 (F := Ideal) (actOf x) (wOf p z s)) (lanesOf x) v) _, ?_⟩
  exact colsY_mem _ y (row_bounds (y 1).val)

end Cert.KernelIdeal.Gen

end
-- ==== Proof.Value.Arrays.lean ====
/- The three result arrays after the kernel's run, element by element over the arrays its pipeline reads. -/
module

public import proofs.«01_k».proof.Proof.Body
public import proofs.«01_k».proof.Proof.Value.Buffers

@[expose] public section

noncomputable section

namespace Cert.KernelIdeal.Gen

open Idealize.ShloMosaic Idealize.ShloMosaic.TcCoe

variable (m : (ℓ : Loc nD τ sig) → Buf (Elt Ideal) ℓ)

/-- Column `1024 t + l` of the product. -/
def tileCol (t : Fin cfg0.N) (l : Fin 1024) : Fin 18432 := ⟨1024 * t.val + l.val, by have : t.val < 18 := t.isLt.trans_eq N_0; omega⟩

/-- The product: at a row and a column, the sum over all positions, times the row's scale, times the channel's. -/
def karray (X : Vec Ideal S1024x2304 .bf16) (W : Vec Ideal S1152x18432 .i8) (Z : Vec Ideal S18x18432 .i8) (S : Vec Ideal S18x18432 .f32)
    (U : Vec Ideal S1x18432 .f32) (y : S1024x18432.Idx) : EReal :=
  (∑ k : Fin 2304, Quant.clip (row X (y 0) k) (Quant.kinv (Quant.rowRatio (row X (y 0))))
      * Quant.kweight (fun j => W (ix2 j (y 1))) (fun g => Z (ix2 g (y 1))) (fun g => S (ix2 g (y 1))) k)
    * Quant.kscale (Quant.rowRatio (row X (y 0))) * U (ix2 (0 : Fin 1) (y 1))

/-- A tile whose column `l` holds the arrays' column `cc` has the product's entry there. -/
theorem ktile_at (X : Vec Ideal S1024x2304 .bf16) (p : Vec Ideal S1152x1024 .i8) (z : Vec Ideal S18x1024 .i8) (s : Vec Ideal S18x1024 .f32)
    (v : Vec Ideal S1x1024 .f32) (W : Vec Ideal S1152x18432 .i8) (Z : Vec Ideal S18x18432 .i8) (S : Vec Ideal S18x18432 .f32)
    (U : Vec Ideal S1x18432 .f32) (r : Fin 1024) (l : Fin 1024) (cc : Fin 18432)
    (hp : ∀ j : Fin 1152, p (ix2 j l) = W (ix2 j cc)) (hz : ∀ g : Fin 18, z (ix2 g l) = Z (ix2 g cc))
    (hs : ∀ g : Fin 18, s (ix2 g l) = S (ix2 g cc)) (hv : v (ix2 (0 : Fin 1) l) = U (ix2 (0 : Fin 1) cc)) :
    ktile X p z s v (ix2 r l) = karray X W Z S U (ix2 r cc) := by
  show (∑ k : Fin 2304, Quant.clip (row X r k) (Quant.kinv (Quant.rowRatio (row X r)))
      * Quant.kweight (fun j => p (ix2 j l)) (fun g => z (ix2 g l)) (fun g => s (ix2 g l)) k)
    * Quant.kscale (Quant.rowRatio (row X r)) * v (ix2 (0 : Fin 1) l)
    = (∑ k : Fin 2304, Quant.clip (row X r k) (Quant.kinv (Quant.rowRatio (row X r)))
      * Quant.kweight (fun j => W (ix2 j cc)) (fun g => Z (ix2 g cc)) (fun g => S (ix2 g cc)) k)
    * Quant.kscale (Quant.rowRatio (row X r)) * U (ix2 (0 : Fin 1) cc)
  rw [funext hp, funext hz, funext hs, hv]

/-! ## Where the blocks lie -/

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![0, t.val] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)

theorem emb0 (t : Fin cfg0.N) (r : Fin 1024) (k : Fin 2304) : (win0_0.blk t).view.emb (ix2 r k) = ix2 r k := by
  blk_ext [index0]
theorem emb1 (t : Fin cfg0.N) (j : Fin 1152) (l : Fin 1024) : (win0_1.blk t).view.emb (ix2 j l) = ix2 j (tileCol t l) := by
  blk_ext [index1, tileCol]
theorem emb2 (t : Fin cfg0.N) (g : Fin 18) (l : Fin 1024) : (win0_2.blk t).view.emb (ix2 g l) = ix2 g (tileCol t l) := by
  blk_ext [index2, tileCol]
theorem emb3 (t : Fin cfg0.N) (g : Fin 18) (l : Fin 1024) : (win0_3.blk t).view.emb (ix2 g l) = ix2 g (tileCol t l) := by
  blk_ext [index3, tileCol]
theorem emb4 (t : Fin cfg0.N) (i : Fin 1) (l : Fin 1024) : (win0_4.blk t).view.emb (ix2 i l) = ix2 i (tileCol t l) := by
  blk_ext [index4, tileCol]
theorem emb5 (t : Fin cfg0.N) (r : Fin 1024) (l : Fin 1024) : (win0_5.blk t).view.emb (ix2 r l) = ix2 r (tileCol t l) := by
  blk_ext [index5, tileCol]
theorem emb6 (t : Fin cfg0.N) (r : Fin 1024) (k : Fin 2304) : (win0_6.blk t).view.emb (ix2 r k) = ix2 r k := by
  blk_ext [index6]
theorem emb7 (t : Fin cfg0.N) (r : Fin 1024) (i : Fin 1) : (win0_7.blk t).view.emb (ix2 r i) = ix2 r i := by
  blk_ext [index7]

/-- The activations' block is the whole array. -/
theorem xBlk_eq (c : Dev nD) : xBlk m c = V m c main_v0 :=
  funext fun y => (congrArg (xBlk m c) (eq_ix2 y)).trans
    ((congrArg (V m c main_v0) (emb0 _ (y 0) (y 1))).trans (congrArg (V m c main_v0) (eq_ix2 y).symm))

/-! ## The result arrays -/

/-- The product array after the run. -/
theorem final5 (c : Dev nD) : (dats m 0 c).arrAt 5 cfg0.N
    = karray (V m c main_v0) (V m c main_arg1) (V m c main_arg2) (V m c main_arg3) (V m c main_v1) := by
  refine (dats m 0 c).arrAt_eq_of_covers 5 _ (by decide +kernel) fun t hf y => ?_
  blk_simp
  rw [after0_5, xBlk_eq]
  refine (yOf_eq _ _ _ _ _ y).trans ?_
  refine (congrArg (ktile (V m c main_v0) (iblk m c 1 t) (iblk m c 2 t) (iblk m c 3 t) (iblk m c 4 t)) (eq_ix2 y)).trans ?_
  refine (ktile_at _ _ _ _ _ (V m c main_arg1) (V m c main_arg2) (V m c main_arg3) (V m c main_v1) (y 0) (y 1) (tileCol t (y 1))
    (fun j => congrArg (V m c main_arg1) (emb1 t j (y 1))) (fun g => congrArg (V m c main_arg2) (emb2 t g (y 1)))
    (fun g => congrArg (V m c main_arg3) (emb3 t g (y 1))) (congrArg (V m c main_v1) (emb4 t 0 (y 1)))).trans ?_
  exact congrArg (karray (V m c main_v0) (V m c main_arg1) (V m c main_arg2) (V m c main_arg3) (V m c main_v1))
    ((emb5 t (y 0) (y 1)).symm.trans (congrArg (win0_5.blk t).view.emb (eq_ix2 y).symm))

/-- The codes array after the run. -/
theorem final6 (c : Dev nD) : (dats m 0 c).arrAt 6 cfg0.N = kcodes (V m c main_v0) := by
  refine (dats m 0 c).arrAt_eq_of_covers 6 _ (by decide +kernel) fun t hf y => ?_
  blk_simp
  rw [after0_6, xBlk_eq]
  refine (codesOf_eq _ y).trans ?_
  exact congrArg (kcodes (V m c main_v0)) ((eq_ix2 y).trans ((emb6 t (y 0) (y 1)).symm.trans (congrArg (win0_6.blk t).view.emb (eq_ix2 y).symm)))

/-- The scales array after the run. -/
theorem final7 (c : Dev nD) : (dats m 0 c).arrAt 7 cfg0.N = kscales (V m c main_v0) := by
  refine (dats m 0 c).arrAt_eq_of_covers 7 _ (by decide +kernel) fun t hf y => ?_
  blk_simp
  rw [after0_7, xBlk_eq]
  refine (scaleOf_eq _ y).trans ?_
  exact congrArg (kscales (V m c main_v0)) ((eq_ix2 y).trans ((emb7 t (y 0) (y 1)).symm.trans (congrArg (win0_7.blk t).view.emb (eq_ix2 y).symm)))

/-- What the pipeline reads as activations: the argument, reshaped. -/
theorem V_main_v0 (c : Dev nD) : V m c main_v0 = shapeCast S1024x2304 (m ((c : Thread nD τ).loc main_arg0)) shapeCasts_S4x256x2304_S1024x2304 := by
  entry_read
  rfl
/-- What it reads as channel scales: the argument, reshaped. -/
theorem V_main_v1 (c : Dev nD) : V m c main_v1 = shapeCast S1x18432 (m ((c : Thread nD τ).loc main_arg4)) shapeCasts_S18432_S1x18432 := by
  entry_read
  rfl

end Cert.KernelIdeal.Gen

end
-- ==== Proof.Ref.Product.lean ====
/- What the reference multiplies, read element by element on the extended reals: the two products over even and odd
   positions, scaled per row and per column. -/
module

public import proofs.«01_k».proof.Proof.Gen.ReferenceIdeal.Skeleton
public import proofs.«01_k».proof.Proof.Exponent
public import Idealize.ShloMosaic.Lib.Pointwise

@[expose] public section

noncomputable section

namespace Cert.ReferenceIdeal.Gen

open Idealize.ShloMosaic

/-- The reference's result at a row and a column: the low nibbles against the even positions, the high nibbles against the
    odd ones, then the two scales. -/
theorem product_apply (a : FVec Ideal S1024x1 .f32) (b : FVec Ideal S1024x2304 .fp8e4m3) (z s : FVec Ideal S18x18432 .bf16)
    (w : Vec Ideal S1152x18432 .i8) (v : Vec Ideal S1x18432 .f32) (r : Fin 1024) (c : Fin 18432) :
    k0_pay1 (F := Ideal) a b z s w v (ix2 r c)
      = (∑ j : Fin 1152, b (ix2 r (⟨j.val * 2, by omega⟩ : Fin 2304))
            * ((FloatOps.sitofp (F := Ideal) .bf16 (IntOp.andi (BitVec.setWidth 32 (w (ix2 j c))) 15#32)
                - z (ix2 (⟨j.val / 64, by omega⟩ : Fin 18) c)) * s (ix2 (⟨j.val / 64, by omega⟩ : Fin 18) c))
          + ∑ j : Fin 1152, b (ix2 r (⟨j.val * 2 + 1, by omega⟩ : Fin 2304))
            * ((FloatOps.sitofp (F := Ideal) .bf16 (IntOp.shrsi .vector (BitVec.setWidth 32 (w (ix2 j c))) 4#32)
                - z (ix2 (⟨j.val / 64, by omega⟩ : Fin 18) c)) * s (ix2 (⟨j.val / 64, by omega⟩ : Fin 18) c)))
        * a (ix2 r (0 : Fin 1)) * v (ix2 (0 : Fin 1) c) := by
  pointwise [k0_pay1]
  try rfl

end Cert.ReferenceIdeal.Gen

end
-- ==== Proof.Ref.Quantiser.lean ====
/- What the reference stores, read element by element on the extended reals: its scales and codes. -/
module

public import proofs.«01_k».proof.Proof.Gen.ReferenceIdeal.Skeleton
public import proofs.«01_k».proof.Proof.Exponent
public import Idealize.ShloMosaic.Lib.Pointwise

@[expose] public section

noncomputable section

namespace Cert.ReferenceIdeal.Gen

open Idealize.ShloMosaic

/-- A row's largest magnitude over 448, as the reference computes it. -/
def ratio (x : Vec Ideal S1024x2304 .bf16) (r : Fin 1024) : EReal :=
  (Finset.univ : Finset (Fin 2304)).fold max (Ideal.ofBits .f32 0xFF800000#32) (fun k => max (x (ix2 r k)) (-(x (ix2 r k))))
    * Ideal.ofBits .f32 0x3B124925#32

/-- The rows' largest magnitudes, as the reference reduces them. -/
def rowMax (x : Vec Ideal S1024x2304 .bf16) : FVec Ideal S1024 .f32 :=
  multiReduction .maximumf [1] S1024 (absf (k0_pay2 x)) 0xFF800000#32 reduces_S1024x2304_S1024 (.inl rfl) rfl

/-- The rows' exponents from their largest magnitudes. -/
def exponent (M : FVec Ideal S1024 .f32) : FVec Ideal S1024x1 .f32 :=
  have v5 : FVec Ideal S1024x1 .f32 := shapeCast S1024x1 M shapeCasts_S1024_S1024x1
  have v7 : FVec Ideal S1024x1 .f32 := mulf v5 (broadcast S1024x1 (Scalar.ofBits .f32 0x3B124925#32))
  select (cmpf .olt v7 (broadcast S1024x1 (Scalar.ofBits .f32 0x00800000#32)))
    (broadcast S1024x1 (Scalar.ofBits .f32 0x00000000#32))
    (addf (floor (divf (log v7) (log (broadcast S1024x1 (Scalar.ofBits .f32 0x40000000#32)))))
      (broadcast S1024x1 (Scalar.ofBits .f32 0x3F800000#32)))

/-- The reference's exponents are those of its row maxima. -/
theorem exponent_eq (x : Vec Ideal S1024x2304 .bf16) : k0_pay3 x = exponent (rowMax x) := by
  unfold k0_pay3 exponent rowMax
  with_reducible rfl

/-- An exponent read at a row. -/
theorem exponent_at (M : FVec Ideal S1024 .f32) (r : Fin 1024) :
    exponent M (ix2 r (0 : Fin 1)) = Quant.rexp (M (ix1 r) * Ideal.ofBits .f32 0x3B124925#32) := by
  have h : shapeCast S1024x1 M shapeCasts_S1024_S1024x1 (ix2 r (0 : Fin 1)) = M (ix1 r) := by
    refine Idealize.ShloMosaic.shapeCast_apply _ _ _ _ ?_
    rw [Shape.rowMajor_val_one, Shape.rowMajor_val_two]
    show r.val = r.val * 1 + 0
    omega
  rw [← h]
  unfold exponent Quant.rexp
  generalize shapeCast S1024x1 M shapeCasts_S1024_S1024x1 = N
  rfl

/-- The row maximum the reference reduces, read at a row. -/
theorem rowMax_apply (x : Vec Ideal S1024x2304 .bf16) (r : Fin 1024) :
    rowMax x (ix1 r)
      = (Finset.univ : Finset (Fin 2304)).fold max (Ideal.ofBits .f32 0xFF800000#32) (fun k => max (x (ix2 r k)) (-(x (ix2 r k)))) := by
  unfold rowMax
  refine (Ideal.multiReduction_maximumf_single _ _ _ _ _ _).trans ?_
  refine congrArg (fun f => (Finset.univ : Finset (Fin 2304)).fold max (Ideal.ofBits .f32 0xFF800000#32) f) (funext fun k => ?_)
  have hl : reduces_S1024x2304_S1024.lift (ix1 r) k = ix2 r k := by
    funext a
    match a with
    | ⟨0, _⟩ => rfl
    | ⟨1, _⟩ => rfl
  show absf (k0_pay2 x) (reduces_S1024x2304_S1024.lift (ix1 r) k) = _
  rw [hl]
  have : k0_pay2 (F := Ideal) x (ix2 r k) = x (ix2 r k) := by
    unfold k0_pay2
    show shapeCast S1024x2304 x _ _ = _
    rw [shapeCast_id]
  show max (k0_pay2 (F := Ideal) x (ix2 r k)) (-(k0_pay2 (F := Ideal) x (ix2 r k))) = _
  rw [this]

/-- The reference's exponent of a row. -/
theorem exponent_apply (x : Vec Ideal S1024x2304 .bf16) (r : Fin 1024) :
    k0_pay3 x (ix2 r (0 : Fin 1)) = Quant.rexp (ratio x r) := by
  rw [exponent_eq, exponent_at, rowMax_apply]
  rfl

/-- A power of two read at an index. -/
theorem exp2_at {s : Shape} (N : FVec Ideal s .f32) (j : s.Idx) : exp2 N j = Ideal.exp2 (N j) := rfl

/-- The reference's scales are powers of two of its exponents. -/
theorem scale_eq (x : Vec Ideal S1024x2304 .bf16) : k0_pay4 x = exp2 (k0_pay3 x) := by
  unfold k0_pay4
  with_reducible rfl

/-- The reference's scale of a row. -/
theorem scale_apply (x : Vec Ideal S1024x2304 .bf16) (r : Fin 1024) :
    k0_pay4 x (ix2 r (0 : Fin 1)) = Quant.rscale (ratio x r) :=
  (congrFun (scale_eq x) _).trans ((exp2_at _ _).trans (congrArg Ideal.exp2 (exponent_apply x r)))

/-- The codes from the input and the exponents. -/
def codes (X : FVec Ideal S1024x2304 .f32) (N : FVec Ideal S1024x1 .f32) : FVec Ideal S1024x2304 .fp8e4m3 :=
  truncf .fp8e4m3 (minimumf (broadcast S1024x2304 (Scalar.ofBits .f32 0x43E00000#32))
    (maximumf (broadcast S1024x2304 (Scalar.ofBits .f32 0xC3E00000#32))
      (mulf X (broadcastTo S1024x2304 (exp2 (subf (broadcast S1024x1 (Scalar.ofBits .f32 0x00000000#32)) N))
        broadcasts_S1024x1_S1024x2304)))) bitsLt_fp8e4m3_f32

/-- The reference's codes are those of its input and its exponents. -/
theorem codes_eq (x : Vec Ideal S1024x2304 .bf16) : k0_pay5 x = codes (k0_pay2 x) (k0_pay3 x) := by
  unfold k0_pay5 codes
  with_reducible rfl

/-- A code read at a row and a column. -/
theorem codes_at (X : FVec Ideal S1024x2304 .f32) (N : FVec Ideal S1024x1 .f32) (r : Fin 1024) (k : Fin 2304) :
    codes X N (ix2 r k) = min (Ideal.ofBits .f32 0x43E00000#32) (max (Ideal.ofBits .f32 0xC3E00000#32)
      (X (ix2 r k) * Ideal.exp2 (Ideal.ofBits .f32 0x00000000#32 - N (ix2 r (0 : Fin 1))))) := by
  have h : ∀ M : FVec Ideal S1024x1 .f32, broadcastTo S1024x2304 M broadcasts_S1024x1_S1024x2304 (ix2 r k) = M (ix2 r (0 : Fin 1)) :=
    fun M => Idealize.ShloMosaic.broadcastTo_apply _ broadcasts_S1024x1_S1024x2304 (ix2 r k) (ix2 r (0 : Fin 1)) (fun a => by
      match a with
      | ⟨0, _⟩ => rfl
      | ⟨1, _⟩ => rfl)
  have e := h (exp2 (subf (broadcast S1024x1 (Scalar.ofBits .f32 0x00000000#32)) N))
  have e' : exp2 (subf (broadcast S1024x1 (Scalar.ofBits .f32 0x00000000#32)) N) (ix2 r (0 : Fin 1))
      = Ideal.exp2 (Ideal.ofBits .f32 0x00000000#32 - N (ix2 r (0 : Fin 1))) := rfl
  rw [← e', ← e]
  rfl

/-- The widened input read at an index. -/
theorem input_at (x : Vec Ideal S1024x2304 .bf16) (j : S1024x2304.Idx) : k0_pay2 (F := Ideal) x j = x j := by
  unfold k0_pay2
  show shapeCast S1024x2304 x _ _ = _
  rw [shapeCast_id]

/-- The reference's code at a row and a column. -/
theorem codes_apply (x : Vec Ideal S1024x2304 .bf16) (r : Fin 1024) (k : Fin 2304) :
    k0_pay5 x (ix2 r k) = min (Ideal.ofBits .f32 0x43E00000#32) (max (Ideal.ofBits .f32 0xC3E00000#32)
      (x (ix2 r k) * Quant.rinv (ratio x r))) := by
  refine (congrFun (codes_eq x) _).trans ((codes_at _ _ r k).trans ?_)
  rw [input_at, exponent_apply]
  rfl

end Cert.ReferenceIdeal.Gen

end
-- ==== Proof.Ref.Arrays.lean ====
/- The three result arrays after the reference's run, element by element over the arrays it reads. -/
module

public import proofs.«01_k».proof.Proof.Gen.ReferenceIdeal.Frame
public import proofs.«01_k».proof.Proof.Ref.Product
public import proofs.«01_k».proof.Proof.Ref.Quantiser
public import proofs.«01_k».proof.Proof.Value.Rows
public import Idealize.ShloMosaic.Lib.Pipeline.ValueKit

@[expose] public section

noncomputable section

namespace Cert.ReferenceIdeal.Gen

open Idealize.ShloMosaic Idealize.ShloMosaic.TcCoe

variable (m : (ℓ : Loc nD τ sig) → Buf (Elt Ideal) ℓ)

/-- A row of the activations. -/
def row (x : Vec Ideal S1024x2304 .bf16) (r : Fin 1024) : Fin 2304 → EReal := fun k => x (ix2 r k)

/-- The codes, as a function of the index. -/
def rcodes (x : Vec Ideal S1024x2304 .bf16) (y : S1024x2304.Idx) : EReal :=
  Quant.clip (row x (y 0) (y 1)) (Quant.rinv (Quant.rowRatio (row x (y 0))))

/-- The scales, as a function of the index. -/
def rscales (x : Vec Ideal S1024x2304 .bf16) (y : S1024x1.Idx) : EReal := Quant.rscale (Quant.rowRatio (row x (y 0)))

/-- The product: the low nibbles against the even positions plus the high nibbles against the odd ones, times the row's
    scale, times the channel's. -/
def rarray (X : Vec Ideal S1024x2304 .bf16) (W : Vec Ideal S1152x18432 .i8) (Z : Vec Ideal S18x18432 .i8) (S : Vec Ideal S18x18432 .f32)
    (U : Vec Ideal S1x18432 .f32) (y : S1024x18432.Idx) : EReal :=
  ((∑ j : Fin 1152, Quant.clip (row X (y 0) (⟨j.val * 2, by omega⟩ : Fin 2304)) (Quant.rinv (Quant.rowRatio (row X (y 0))))
        * Quant.rlow (fun j => W (ix2 j (y 1))) (fun g => Z (ix2 g (y 1))) (fun g => S (ix2 g (y 1))) j)
      + ∑ j : Fin 1152, Quant.clip (row X (y 0) (⟨j.val * 2 + 1, by omega⟩ : Fin 2304)) (Quant.rinv (Quant.rowRatio (row X (y 0))))
        * Quant.rhigh (fun j => W (ix2 j (y 1))) (fun g => Z (ix2 g (y 1))) (fun g => S (ix2 g (y 1))) j)
    * Quant.rscale (Quant.rowRatio (row X (y 0))) * U (ix2 (0 : Fin 1) (y 1))

/-- The offset `(0, 0)` a whole-buffer load or store is written at. -/
theorem zero2 : (![0, 0] : Fin 2 → Nat) = fun _ => 0 := funext fun a => by fin_cases a <;> rfl

/-- The zero points and the group scales read at an index. -/
theorem zeros_at (z : Vec Ideal S18x18432 .i8) (j : S18x18432.Idx) : k0_pay6 (F := Ideal) z j = FloatOps.uitofp (F := Ideal) .f32 (z j) := rfl
theorem scales_at (s : Vec Ideal S18x18432 .f32) (j : S18x18432.Idx) : k0_pay7 (F := Ideal) s j = s j := rfl

/-- The stored product at a row and a column. -/
theorem product_eq (X : Vec Ideal S1024x2304 .bf16) (W : Vec Ideal S1152x18432 .i8) (Z : Vec Ideal S18x18432 .i8) (S : Vec Ideal S18x18432 .f32)
    (U : Vec Ideal S1x18432 .f32) (r : Fin 1024) (c : Fin 18432) :
    k0_pay1 (F := Ideal) (k0_pay4 X) (k0_pay5 X) (k0_pay6 Z) (k0_pay7 S) W U (ix2 r c) = rarray X W Z S U (ix2 r c) := by
  refine (product_apply _ _ _ _ _ _ r c).trans ?_
  rw [scale_apply]
  simp only [codes_apply, zeros_at, scales_at]
  rfl

/-- The stored codes and scales. -/
theorem codes_rcodes (X : Vec Ideal S1024x2304 .bf16) (r : Fin 1024) (k : Fin 2304) : k0_pay5 X (ix2 r k) = rcodes X (ix2 r k) :=
  codes_apply X r k
theorem scale_rscales (X : Vec Ideal S1024x2304 .bf16) (r : Fin 1024) (i : Fin 1) : k0_pay4 X (ix2 r i) = rscales X (ix2 r i) := by
  match i with
  | ⟨0, _⟩ => exact scale_apply X r

/-! ## Where the blocks lie -/

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)

theorem emb0 (t : Fin cfg0.N) (r : Fin 1024) (k : Fin 2304) : (win0_0.blk t).view.emb (ix2 r k) = ix2 r k := by
  blk_ext [index0]
theorem emb1 (t : Fin cfg0.N) (j : Fin 1152) (l : Fin 18432) : (win0_1.blk t).view.emb (ix2 j l) = ix2 j l := by
  blk_ext [index1]
theorem emb2 (t : Fin cfg0.N) (g : Fin 18) (l : Fin 18432) : (win0_2.blk t).view.emb (ix2 g l) = ix2 g l := by
  blk_ext [index2]
theorem emb3 (t : Fin cfg0.N) (g : Fin 18) (l : Fin 18432) : (win0_3.blk t).view.emb (ix2 g l) = ix2 g l := by
  blk_ext [index3]
theorem emb4 (t : Fin cfg0.N) (i : Fin 1) (l : Fin 18432) : (win0_4.blk t).view.emb (ix2 i l) = ix2 i l := by
  blk_ext [index4]
theorem emb5 (t : Fin cfg0.N) (r : Fin 1024) (l : Fin 18432) : (win0_5.blk t).view.emb (ix2 r l) = ix2 r l := by
  blk_ext [index5]
theorem emb6 (t : Fin cfg0.N) (r : Fin 1024) (k : Fin 2304) : (win0_6.blk t).view.emb (ix2 r k) = ix2 r k := by
  blk_ext [index6]
theorem emb7 (t : Fin cfg0.N) (r : Fin 1024) (i : Fin 1) : (win0_7.blk t).view.emb (ix2 r i) = ix2 r i := by
  blk_ext [index7]

/-- Each input's block is its whole array. -/
theorem blk0 (c : Dev nD) (t : Fin cfg0.N) : iblk m c 0 t = V m c main_v0 :=
  funext fun y => (congrArg (iblk m c 0 t) (eq_ix2 y)).trans
    ((congrArg (V m c main_v0) (emb0 _ (y 0) (y 1))).trans (congrArg (V m c main_v0) (eq_ix2 y).symm))
theorem blk1 (c : Dev nD) (t : Fin cfg0.N) : iblk m c 1 t = V m c main_arg1 :=
  funext fun y => (congrArg (iblk m c 1 t) (eq_ix2 y)).trans
    ((congrArg (V m c main_arg1) (emb1 _ (y 0) (y 1))).trans (congrArg (V m c main_arg1) (eq_ix2 y).symm))
theorem blk2 (c : Dev nD) (t : Fin cfg0.N) : iblk m c 2 t = V m c main_arg2 :=
  funext fun y => (congrArg (iblk m c 2 t) (eq_ix2 y)).trans
    ((congrArg (V m c main_arg2) (emb2 _ (y 0) (y 1))).trans (congrArg (V m c main_arg2) (eq_ix2 y).symm))
theorem blk3 (c : Dev nD) (t : Fin cfg0.N) : iblk m c 3 t = V m c main_arg3 :=
  funext fun y => (congrArg (iblk m c 3 t) (eq_ix2 y)).trans
    ((congrArg (V m c main_arg3) (emb3 _ (y 0) (y 1))).trans (congrArg (V m c main_arg3) (eq_ix2 y).symm))
theorem blk4 (c : Dev nD) (t : Fin cfg0.N) : iblk m c 4 t = V m c main_v1 :=
  funext fun y => (congrArg (iblk m c 4 t) (eq_ix2 y)).trans
    ((congrArg (V m c main_v1) (emb4 _ (y 0) (y 1))).trans (congrArg (V m c main_v1) (eq_ix2 y).symm))

/-! ## What the body leaves -/

/-- A buffer stored whole once holds what was stored. -/
theorem out5_eq (X : Vec Ideal S1024x2304 .bf16) (W : Vec Ideal S1152x18432 .i8) (Z : Vec Ideal S18x18432 .i8) (S : Vec Ideal S18x18432 .f32)
    (U : Vec Ideal S1x18432 .f32) : out0_5 X W Z S U = k0_pay1 (F := Ideal) (k0_pay4 X) (k0_pay5 X) (k0_pay6 Z) (k0_pay7 S) W U := by
  unfold out0_5
  rw [View.ld_unit_zero zero2, View.ld_unit_zero zero2, View.ld_unit_zero zero2, View.ld_unit_zero zero2, View.ld_unit_zero zero2]
  exact View.canon_unit_zero zero2 _ _
theorem out6_eq (X : Vec Ideal S1024x2304 .bf16) (W : Vec Ideal S1152x18432 .i8) (Z : Vec Ideal S18x18432 .i8) (S : Vec Ideal S18x18432 .f32)
    (U : Vec Ideal S1x18432 .f32) : out0_6 X W Z S U = k0_pay5 X := by
  unfold out0_6
  rw [View.ld_unit_zero zero2]
  exact View.canon_unit_zero zero2 _ _
theorem out7_eq (X : Vec Ideal S1024x2304 .bf16) (W : Vec Ideal S1152x18432 .i8) (Z : Vec Ideal S18x18432 .i8) (S : Vec Ideal S18x18432 .f32)
    (U : Vec Ideal S1x18432 .f32) : out0_7 X W Z S U = k0_pay4 X := by
  unfold out0_7
  rw [View.ld_unit_zero zero2]
  exact View.canon_unit_zero zero2 _ _

/-! ## The result arrays -/

/-- The product array after the run. -/
theorem final5 (c : Dev nD) : (dats m 0 c).arrAt 5 cfg0.N
    = rarray (V m c main_v0) (V m c main_arg1) (V m c main_arg2) (V m c main_arg3) (V m c main_v1) := by
  refine (dats m 0 c).arrAt_eq_of_covers 5 _ (by decide +kernel) fun t hf y => ?_
  blk_simp
  rw [after0_5, blk0, blk1, blk2, blk3, blk4, out5_eq]
  refine (congrArg (k0_pay1 (F := Ideal) (k0_pay4 (V m c main_v0)) (k0_pay5 (V m c main_v0)) (k0_pay6 (V m c main_arg2))
    (k0_pay7 (V m c main_arg3)) (V m c main_arg1) (V m c main_v1)) (eq_ix2 y)).trans ?_
  refine (product_eq _ _ _ _ _ (y 0) (y 1)).trans ?_
  exact congrArg (rarray (V m c main_v0) (V m c main_arg1) (V m c main_arg2) (V m c main_arg3) (V m c main_v1))
    ((emb5 t (y 0) (y 1)).symm.trans (congrArg (win0_5.blk t).view.emb (eq_ix2 y).symm))

/-- The codes array after the run. -/
theorem final6 (c : Dev nD) : (dats m 0 c).arrAt 6 cfg0.N = rcodes (V m c main_v0) := by
  refine (dats m 0 c).arrAt_eq_of_covers 6 _ (by decide +kernel) fun t hf y => ?_
  blk_simp
  rw [after0_6, blk0, blk1, blk2, blk3, blk4, out6_eq]
  refine (congrArg (k0_pay5 (V m c main_v0)) (eq_ix2 y)).trans ((codes_rcodes _ (y 0) (y 1)).trans ?_)
  exact congrArg (rcodes (V m c main_v0)) ((emb6 t (y 0) (y 1)).symm.trans (congrArg (win0_6.blk t).view.emb (eq_ix2 y).symm))

/-- The scales array after the run. -/
theorem final7 (c : Dev nD) : (dats m 0 c).arrAt 7 cfg0.N = rscales (V m c main_v0) := by
  refine (dats m 0 c).arrAt_eq_of_covers 7 _ (by decide +kernel) fun t hf y => ?_
  blk_simp
  rw [after0_7, blk0, blk1, blk2, blk3, blk4, out7_eq]
  refine (congrArg (k0_pay4 (V m c main_v0)) (eq_ix2 y)).trans ((scale_rscales _ (y 0) (y 1)).trans ?_)
  exact congrArg (rscales (V m c main_v0)) ((emb7 t (y 0) (y 1)).symm.trans (congrArg (win0_7.blk t).view.emb (eq_ix2 y).symm))

/-- What the reference reads as activations: the argument, reshaped. -/
theorem V_main_v0 (c : Dev nD) : V m c main_v0 = shapeCast S1024x2304 (m ((c : Thread nD τ).loc main_arg0)) shapeCasts_S4x256x2304_S1024x2304 := by
  entry_read
  rfl
/-- What it reads as channel scales: the argument, reshaped. -/
theorem V_main_v1 (c : Dev nD) : V m c main_v1 = shapeCast S1x18432 (m ((c : Thread nD τ).loc main_arg4)) shapeCasts_S18432_S1x18432 := by
  entry_read
  rfl

end Cert.ReferenceIdeal.Gen

end
-- ==== Proof.Value.Agree.lean ====
/- The kernel's results and the reference's are the same functions of the arguments where the activations are finite. -/
module

public import proofs.«01_k».proof.Proof.Value.Arrays
public import proofs.«01_k».proof.Proof.Ref.Arrays

@[expose] public section

noncomputable section

namespace Cert.Quant

open Idealize.ShloMosaic Idealize.ShloMosaic.TcCoe

/-- The activations' shape once their two leading axes are one. -/
abbrev SX : Shape := ⟨2, ![1024, 2304]⟩

/-- Every activation is at most the largest finite `bfloat16` in magnitude. -/
def Bounded (X : Vec Ideal SX .bf16) : Prop := ∀ y : SX.Idx, max (X y : EReal) (-(X y : EReal)) ≤ Ideal.ofBits .bf16 0x7F7F#16

/-- The kernel's and the reference's scale of a row agree, and so do the inverse scales. -/
theorem scales_agree (X : Vec Ideal SX .bf16) (hX : Bounded X) (r : Fin 1024) :
    kscale (rowRatio (fun k : Fin 2304 => X (ix2 r k))) = rscale (rowRatio (fun k : Fin 2304 => X (ix2 r k)))
      ∧ kinv (rowRatio (fun k : Fin 2304 => X (ix2 r k))) = rinv (rowRatio (fun k : Fin 2304 => X (ix2 r k))) :=
  row_agree (fun k : Fin 2304 => X (ix2 r k)) fun k => hX (ix2 r k)

/-- The two scales arrays agree. -/
theorem scale_arrays (X : Vec Ideal SX .bf16) (hX : Bounded X) : KernelIdeal.Gen.kscales X = ReferenceIdeal.Gen.rscales X :=
  funext fun y => (scales_agree X hX (y 0)).1

/-- The two codes arrays agree. -/
theorem code_arrays (X : Vec Ideal SX .bf16) (hX : Bounded X) : KernelIdeal.Gen.kcodes X = ReferenceIdeal.Gen.rcodes X :=
  funext fun y => congrArg (clip (X (ix2 (y 0) (y 1)))) (scales_agree X hX (y 0)).2

/-- A sum against the dequantised weights with equal factors on both sides. -/
theorem entry_agree (f : Fin 2304 → EReal) (p q i i' : EReal) (hp : p = q) (hi : i = i') (w : Fin 1152 → BitVec 8) (z : Fin 18 → BitVec 8)
    (s : Fin 18 → EReal) (u : EReal) :
    (∑ k : Fin 2304, clip (f k) i * kweight w z s k) * p * u
      = ((∑ j : Fin 1152, clip (f ⟨j.val * 2, by omega⟩) i' * rlow w z s j)
          + ∑ j : Fin 1152, clip (f ⟨j.val * 2 + 1, by omega⟩) i' * rhigh w z s j) * q * u := by
  subst hp hi
  rw [product_agree (fun k => clip (f k) i) w z s]

/-- The two product arrays agree. -/
theorem product_arrays (X : Vec Ideal SX .bf16) (hX : Bounded X) (W : Vec Ideal ⟨2, ![1152, 18432]⟩ .i8) (Z : Vec Ideal ⟨2, ![18, 18432]⟩ .i8)
    (S : Vec Ideal ⟨2, ![18, 18432]⟩ .f32) (U : Vec Ideal ⟨2, ![1, 18432]⟩ .f32) :
    KernelIdeal.Gen.karray X W Z S U = ReferenceIdeal.Gen.rarray X W Z S U :=
  funext fun y => entry_agree (fun k : Fin 2304 => X (ix2 (y 0) k)) _ _ _ _ (scales_agree X hX (y 0)).1 (scales_agree X hX (y 0)).2
    (fun j => W (ix2 j (y 1))) (fun g => Z (ix2 g (y 1))) (fun g => S (ix2 g (y 1))) (U (ix2 (0 : Fin 1) (y 1)))

end Cert.Quant

end
-- ==== Proof.Value.Precondition.lean ====
/- The precondition read element by element. -/
module

public import proofs.«01_k».proof.Pre_finite_input
public import Idealize.ShloMosaic.PureOps.Ideal

@[expose] public section

noncomputable section

namespace Cert.Pre_finite_input

open Idealize.ShloMosaic

/-- The shape relation the precondition's broadcast takes. -/
theorem facts : Facts := ⟨by decide⟩

/-- Where the precondition holds no activation exceeds the largest finite `bfloat16` in magnitude. -/
theorem bound [Facts] (x : FVec Ideal S4x256x2304 .bf16) (w : IVec S1152x18432 8) (z : IVec S18x18432 8) (s : FVec Ideal S18x18432 .f32)
    (u : FVec Ideal S18432 .f32) (h : fn (F := Ideal) x w z s u = fun _ => 1#1) (i : S4x256x2304.Idx) :
    max (x i : EReal) (-(x i : EReal)) ≤ Ideal.ofBits .bf16 0x7F7F#16 := by
  have e : BitVec.ofBool (decide (max (x i : EReal) (-(x i : EReal)) ≤ Ideal.ofBits .bf16 0x7F7F#16)) = 1#1 := congrFun h i
  by_contra hn
  rw [decide_eq_false hn] at e
  exact absurd e (by decide)

end Cert.Pre_finite_input

end
-- ==== Proof.Value.Claim.lean ====
/- The value claim: the kernel and the reference end with equal results. -/
module

public import proofs.«01_k».proof.Defs
public import proofs.«01_k».proof.Proof.Value.Agree
public import proofs.«01_k».proof.Proof.Value.Precondition

@[expose] public section

noncomputable section

namespace Cert.KernelIdeal.Gen

open Idealize.ShloMosaic Idealize.ShloMosaic.TcCoe Idealize.SL.Sem

variable (m : (ℓ : Loc nD τ sig) → Buf (Elt Ideal) ℓ) (ρ : Dev nD → PrngReg)

/-- The activations and the channel scales as the pipeline reads them, from the program's memory. -/
def acts (c : Dev nD) : Vec Ideal S1024x2304 .bf16 :=
  shapeCast S1024x2304 (m ((c.tc : Thread nD τ).loc main_arg0)) shapeCasts_S4x256x2304_S1024x2304
def chans (c : Dev nD) : Vec Ideal S1x18432 .f32 :=
  shapeCast S1x18432 (m ((c.tc : Thread nD τ).loc main_arg4)) shapeCasts_S18432_S1x18432

/-- Every execution of the kernel ends with its three results at the stated functions of the arguments, and the arguments unchanged. -/
theorem values : θ_run defs (onTc (τ := τ) (main (F := Ideal))) ⟨m, fun _ => 0, ρ⟩ (fun r => ∀ c : Dev nD,
      r.2.mem ((c.tc : Thread nD τ).loc main_v2_0) = karray (acts m c) (m ((c.tc : Thread nD τ).loc main_arg1)) (m ((c.tc : Thread nD τ).loc main_arg2)) (m ((c.tc : Thread nD τ).loc main_arg3)) (chans m c)
      ∧ r.2.mem ((c.tc : Thread nD τ).loc main_v2_1) = kcodes (acts m c)
      ∧ r.2.mem ((c.tc : Thread nD τ).loc main_v2_2) = kscales (acts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, ?_, ?_, h.2 c⟩) (θ_run_and (run_main m ρ) (unchanged m ρ))
  · refine ((h.1 c).1 5).trans ((final5 m c).trans ?_)
    rw [V_main_v0, V_main_v1, V_main_arg1, V_main_arg2, V_main_arg3]
    rfl
  · refine ((h.1 c).1 6).trans ((final6 m c).trans ?_)
    rw [V_main_v0]
    rfl
  · refine ((h.1 c).1 7).trans ((final7 m c).trans ?_)
    rw [V_main_v0]
    rfl

end Cert.KernelIdeal.Gen

namespace Cert.ReferenceIdeal.Gen

open Idealize.ShloMosaic Idealize.ShloMosaic.TcCoe Idealize.SL.Sem

variable (m : (ℓ : Loc nD τ sig) → Buf (Elt Ideal) ℓ) (ρ : Dev nD → PrngReg)

/-- The activations and the channel scales as the pipeline reads them, from the program's memory. -/
def acts (c : Dev nD) : Vec Ideal S1024x2304 .bf16 :=
  shapeCast S1024x2304 (m ((c.tc : Thread nD τ).loc main_arg0)) shapeCasts_S4x256x2304_S1024x2304
def chans (c : Dev nD) : Vec Ideal S1x18432 .f32 :=
  shapeCast S1x18432 (m ((c.tc : Thread nD τ).loc main_arg4)) shapeCasts_S18432_S1x18432

/-- Every execution of the reference ends with its three results at the stated functions of the arguments, and the arguments unchanged. -/
theorem values : θ_run defs (onTc (τ := τ) (main (F := Ideal))) ⟨m, fun _ => 0, ρ⟩ (fun r => ∀ c : Dev nD,
      r.2.mem ((c.tc : Thread nD τ).loc main_v2_0) = rarray (acts m c) (m ((c.tc : Thread nD τ).loc main_arg1)) (m ((c.tc : Thread nD τ).loc main_arg2)) (m ((c.tc : Thread nD τ).loc main_arg3)) (chans m c)
      ∧ r.2.mem ((c.tc : Thread nD τ).loc main_v2_1) = rcodes (acts m c)
      ∧ r.2.mem ((c.tc : Thread nD τ).loc main_v2_2) = rscales (acts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨?_, ?_, ?_, h.2 c⟩) (θ_run_and (run_main m ρ) (unchanged m ρ))
  · refine ((h.1 c).1 5).trans ((final5 m c).trans ?_)
    rw [V_main_v0, V_main_v1, V_main_arg1, V_main_arg2, V_main_arg3]
    rfl
  · refine ((h.1 c).1 6).trans ((final6 m c).trans ?_)
    rw [V_main_v0]
    rfl
  · refine ((h.1 c).1 7).trans ((final7 m c).trans ?_)
    rw [V_main_v0]
    rfl

end Cert.ReferenceIdeal.Gen

namespace Cert.Quant

open Idealize.ShloMosaic Idealize.ShloMosaic.TcCoe Idealize.SL.Sem

/-- From memories agreeing on the arguments, with finite activations, the kernel and the reference end with equal products,
    codes and scales and with their arguments unchanged. -/
theorem algebraic : Cert.algebraic_KernelIdeal_ReferenceIdeal_pre_finite_input
    (hKernelIdeal := Cert.KernelIdeal.Gen.facts) (hReferenceIdeal := Cert.ReferenceIdeal.Gen.facts) (hPre_finite_input := Cert.Pre_finite_input.facts) := by
  intro m g m' g' hpre hargs
  have hX : ∀ c, Bounded (KernelIdeal.Gen.acts m c) := fun c y =>
    @Cert.Pre_finite_input.bound Cert.Pre_finite_input.facts _ _ _ _ _ (hpre c) _
  have hacts : ∀ c, ReferenceIdeal.Gen.acts m' c = KernelIdeal.Gen.acts m c := fun c =>
    congrArg (fun a => shapeCast SX a KernelIdeal.Gen.shapeCasts_S4x256x2304_S1024x2304) (hargs c).1
  have hchans : ∀ c, ReferenceIdeal.Gen.chans m' c = KernelIdeal.Gen.chans m c := fun c =>
    congrArg (fun a => shapeCast ⟨2, ![1, 18432]⟩ a KernelIdeal.Gen.shapeCasts_S18432_S1x18432) (hargs c).2.2.2.2
  refine ⟨_, _, _, KernelIdeal.Gen.values m g, (θ_run _ _ _).mono (fun r h c => ?_) (ReferenceIdeal.Gen.values m' g')⟩
  obtain ⟨h0, h1, h2, hrest⟩ := h c
  obtain ⟨_, e1, e2, e3, _⟩ := hargs c
  refine ⟨h0.trans ?_, h1.trans ?_, h2.trans ?_, hrest⟩
  · rw [hacts, hchans, e1, e2, e3]
    exact (product_arrays _ (hX c) _ _ _ _).symm
  · rw [hacts]
    exact (code_arrays _ (hX c)).symm
  · rw [hacts]
    exact (scale_arrays _ (hX c)).symm

end Cert.Quant

end
-- ==== Proof.lean ====
/- The certificate: the frames of the kernel, of its idealization and of the reference, the idealization itself, and the equality of the
   kernel's three results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Body
public import proofs.«01_k».proof.Proof.Kernel.Frame
public import proofs.«01_k».proof.Proof.Value.Claim
public import Idealize.ShloMosaic.Adequacy
public import Idealize.ShloMosaic.Init

@[expose] public section

noncomputable section

namespace Cert.Proof

open Idealize.ShloMosaic Idealize.SL.Sem Cert.Kernel

/-- Every claim: the three programs run with their arguments unchanged and every counter back at zero, the idealization is the
    kernel's own text, and from finite activations the kernel's product, codes and scales equal the reference's. -/
theorem claim : Cert.Claim := ⟨Cert.Kernel.Gen.facts, Cert.KernelIdeal.Gen.facts, Cert.ReferenceIdeal.Gen.facts, Cert.Pre_finite_input.facts,
  fun m g _ => Cert.Kernel.Gen.frame m g,
  fun m g _ => Cert.KernelIdeal.Gen.frame m g, fun m g _ => Cert.KernelIdeal.Gen.frame m g,
  fun m g _ => Cert.ReferenceIdeal.Gen.frame m g, fun m g _ => Cert.ReferenceIdeal.Gen.frame m g,
  trivial, Cert.Quant.algebraic⟩

end Cert.Proof

end
